-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S4096x2048 : Shape := ⟨2, ![4096, 2048]⟩
abbrev S7x512x1024 : Shape := ⟨3, ![7, 512, 1024]⟩
abbrev S512x1024 : Shape := ⟨2, ![512, 1024]⟩
abbrev S8x512x1024 : Shape := ⟨3, ![8, 512, 1024]⟩
abbrev S1x128 : Shape := ⟨2, ![1, 128]⟩
abbrev S8x128 : Shape := ⟨2, ![8, 128]⟩
abbrev S7 : Shape := ⟨1, ![7]⟩
abbrev S3 : Shape := ⟨1, ![3]⟩
abbrev S_ : Shape := ⟨0, ![]⟩
abbrev S512x512 : Shape := ⟨2, ![512, 512]⟩
abbrev S1 : Shape := ⟨1, ![1]⟩
abbrev S1x512x1024 : Shape := ⟨3, ![1, 512, 1024]⟩
abbrev S1x1x1 : Shape := ⟨3, ![1, 1, 1]⟩
abbrev S128 : Shape := ⟨1, ![128]⟩
abbrev S1x8x128 : Shape := ⟨3, ![1, 8, 128]⟩

abbrev nBuf : Space → Nat
  | .hbm => 3
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S4096x2048, .f32⟩
  | .local _ .vmem, ⟨0, _⟩ => ⟨S4096x512, .f32⟩
  | .local _ .vmem, ⟨1, _⟩ => ⟨S512x2048, .f32⟩
  | .local _ .vmem, ⟨2, _⟩ => ⟨S7x512x1024, .f32⟩
  | .local _ .vmem, ⟨3, _⟩ => ⟨S7x512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S8x512x1024, .i8⟩
  | .local _ .vmem, ⟨9, _⟩ => ⟨S8x512x1024, .i8⟩
  | .local _ .vmem, ⟨10, _⟩ => ⟨S1x128, .f32⟩
  | .local _ .vmem, ⟨11, _⟩ => ⟨S8x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  (ofTc nBuf bufTy 1 78 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.subi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_10 : BitVec 32 := 1#32
  let v19 : BitVec 32 := Scalar.muli v17 c1_i32_10
  let v20 : BitVec 32 := Scalar.addi c0_i32 v19
  v20.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_12 : BitVec 32 := 1#32
  let v21 : BitVec 32 := Scalar.muli v11 c1_i32_12
  let v22 : BitVec 32 := Scalar.addi c0_i32_13 v21
  v22.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c512_i32 : BitVec 32 := 512#32
  let v23 : BitVec 32 := Scalar.muli v5 c512_i32
  let v24 : Index := Scalar.indexCast v23
  let c0 : Index := 0#32
  ![v24.toNat, 0]
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_27 : BitVec 32 := 1#32
  let v43 : BitVec 32 := Scalar.muli v11 c1_i32_27
  let v44 : BitVec 32 := Scalar.addi c0_i32_28 v43
  v44.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.subi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_34 : BitVec 32 := 1#32
  let v51 : BitVec 32 := Scalar.muli v17 c1_i32_34
  let v52 : BitVec 32 := Scalar.addi c0_i32_35 v51
  v52.toNat
def k0_off2 (d0 : Dev nD) (c0_i32_38 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v59 : BitVec 32 := Scalar.subi v5 c0_i32_38
  let c1_i32_39 : BitVec 32 := 1#32
  let v60 : BitVec 32 := Scalar.subi v59 c1_i32_39
  let c16_i32_40 : BitVec 32 := 16#32
  let v61 : BitVec 32 := Scalar.addi v60 c16_i32_40
  let c8_i32_41 : BitVec 32 := 8#32
  let v62 : BitVec 32 := Scalar.remsi v61 c8_i32_41
  let c512_i32_42 : BitVec 32 := 512#32
  let v63 : BitVec 32 := Scalar.muli v62 c512_i32_42
  let v64 : Index := Scalar.indexCast v63
  let c0_43 : Index := 0#32
  ![v64.toNat, 0]
def k0_off3 (d0 : Dev nD) (c0_i32_49 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v73 : BitVec 32 := Scalar.addi v5 c0_i32_49
  let c1_i32_50 : BitVec 32 := 1#32
  let v74 : BitVec 32 := Scalar.addi v73 c1_i32_50
  let c16_i32_51 : BitVec 32 := 16#32
  let v75 : BitVec 32 := Scalar.addi v74 c16_i32_51
  let c8_i32_52 : BitVec 32 := 8#32
  let v76 : BitVec 32 := Scalar.remsi v75 c8_i32_52
  let c512_i32_53 : BitVec 32 := 512#32
  let v77 : BitVec 32 := Scalar.muli v76 c512_i32_53
  let v78 : Index := Scalar.indexCast v77
  let c0_54 : Index := 0#32
  ![v78.toNat, 0]
def k0_dev5 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_106 : BitVec 32 := 1#32
  let v121 : BitVec 32 := Scalar.muli v11 c1_i32_106
  let v122 : BitVec 32 := Scalar.addi c0_i32_107 v121
  v122.toNat
def k0_dev6 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.subi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_116 : BitVec 32 := 1#32
  let v131 : BitVec 32 := Scalar.muli v17 c1_i32_116
  let v132 : BitVec 32 := Scalar.addi c0_i32_117 v131
  v132.toNat
def k0_dev7 (d0 : Dev nD) : Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_201 : BitVec 32 := 1#32
  let v211 : BitVec 32 := Scalar.muli v11 c1_i32_201
  let v212 : BitVec 32 := Scalar.addi c0_i32_202 v211
  v212.toNat
def k0_dev8 (d0 : Dev nD) : Nat :=
  let c0_i32_212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.subi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_211 : BitVec 32 := 1#32
  let v221 : BitVec 32 := Scalar.muli v17 c1_i32_211
  let v222 : BitVec 32 := Scalar.addi c0_i32_212 v221
  v222.toNat
def k0_dev9 (d0 : Dev nD) : Nat :=
  let c0_i32_296 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_295 : BitVec 32 := 1#32
  let v301 : BitVec 32 := Scalar.muli v11 c1_i32_295
  let v302 : BitVec 32 := Scalar.addi c0_i32_296 v301
  v302.toNat
def k0_dev10 (d0 : Dev nD) : Nat :=
  let c0_i32_306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.subi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_305 : BitVec 32 := 1#32
  let v311 : BitVec 32 := Scalar.muli v17 c1_i32_305
  let v312 : BitVec 32 := Scalar.addi c0_i32_306 v311
  v312.toNat
def k0_dev11 (d0 : Dev nD) : Nat :=
  let c0_i32_391 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_390 : BitVec 32 := 1#32
  let v391 : BitVec 32 := Scalar.muli v11 c1_i32_390
  let v392 : BitVec 32 := Scalar.addi c0_i32_391 v391
  v392.toNat
def k0_dev12 (d0 : Dev nD) : Nat :=
  let c0_i32_401 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.subi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_400 : BitVec 32 := 1#32
  let v401 : BitVec 32 := Scalar.muli v17 c1_i32_400
  let v402 : BitVec 32 := Scalar.addi c0_i32_401 v401
  v402.toNat
def k0_dev13 (d0 : Dev nD) : Nat :=
  let c0_i32_485 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_484 : BitVec 32 := 1#32
  let v481 : BitVec 32 := Scalar.muli v11 c1_i32_484
  let v482 : BitVec 32 := Scalar.addi c0_i32_485 v481
  v482.toNat
def k0_dev14 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.subi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_494 : BitVec 32 := 1#32
  let v491 : BitVec 32 := Scalar.muli v17 c1_i32_494
  let v492 : BitVec 32 := Scalar.addi c0_i32_495 v491
  v492.toNat
def k0_dev15 (d0 : Dev nD) : Nat :=
  let c0_i32_579 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_578 : BitVec 32 := 1#32
  let v571 : BitVec 32 := Scalar.muli v11 c1_i32_578
  let v572 : BitVec 32 := Scalar.addi c0_i32_579 v571
  v572.toNat
def k0_dev16 (d0 : Dev nD) : Nat :=
  let c0_i32_589 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.subi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_588 : BitVec 32 := 1#32
  let v581 : BitVec 32 := Scalar.muli v17 c1_i32_588
  let v582 : BitVec 32 := Scalar.addi c0_i32_589 v581
  v582.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v687 : Index := Scalar.indexCast v2
  let c0_685 : Index := 0#32
  ![v687.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_693 : BitVec 32 := 0#32
  ![v2.toNat, 0]
def k0_dev17 (d0 : Dev nD) : Nat :=
  let c0_i32_692 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_686 : BitVec 32 := 1#32
  let v691 : BitVec 32 := Scalar.addi v2 c1_i32_686
  let c16_i32_687 : BitVec 32 := 16#32
  let v692 : BitVec 32 := Scalar.addi v691 c16_i32_687
  let c8_i32_688 : BitVec 32 := 8#32
  let v693 : BitVec 32 := Scalar.remsi v692 c8_i32_688
  let c1_i32_691 : BitVec 32 := 1#32
  let v694 : BitVec 32 := Scalar.muli v693 c1_i32_691
  let v695 : BitVec 32 := Scalar.addi c0_i32_692 v694
  v695.toNat
def k0_dev18 (d0 : Dev nD) : Nat :=
  let c0_i32_700 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_694 : BitVec 32 := 2#32
  let v701 : BitVec 32 := Scalar.addi v2 c2_i32_694
  let c16_i32_695 : BitVec 32 := 16#32
  let v702 : BitVec 32 := Scalar.addi v701 c16_i32_695
  let c8_i32_696 : BitVec 32 := 8#32
  let v703 : BitVec 32 := Scalar.remsi v702 c8_i32_696
  let c1_i32_699 : BitVec 32 := 1#32
  let v704 : BitVec 32 := Scalar.muli v703 c1_i32_699
  let v705 : BitVec 32 := Scalar.addi c0_i32_700 v704
  v705.toNat
def k0_dev19 (d0 : Dev nD) : Nat :=
  let c0_i32_708 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_702 : BitVec 32 := 3#32
  let v711 : BitVec 32 := Scalar.addi v2 c3_i32_702
  let c16_i32_703 : BitVec 32 := 16#32
  let v712 : BitVec 32 := Scalar.addi v711 c16_i32_703
  let c8_i32_704 : BitVec 32 := 8#32
  let v713 : BitVec 32 := Scalar.remsi v712 c8_i32_704
  let c1_i32_707 : BitVec 32 := 1#32
  let v714 : BitVec 32 := Scalar.muli v713 c1_i32_707
  let v715 : BitVec 32 := Scalar.addi c0_i32_708 v714
  v715.toNat
def k0_dev20 (d0 : Dev nD) : Nat :=
  let c0_i32_716 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_710 : BitVec 32 := 4#32
  let v721 : BitVec 32 := Scalar.addi v2 c4_i32_710
  let c16_i32_711 : BitVec 32 := 16#32
  let v722 : BitVec 32 := Scalar.addi v721 c16_i32_711
  let c8_i32_712 : BitVec 32 := 8#32
  let v723 : BitVec 32 := Scalar.remsi v722 c8_i32_712
  let c1_i32_715 : BitVec 32 := 1#32
  let v724 : BitVec 32 := Scalar.muli v723 c1_i32_715
  let v725 : BitVec 32 := Scalar.addi c0_i32_716 v724
  v725.toNat
def k0_dev21 (d0 : Dev nD) : Nat :=
  let c0_i32_724 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_718 : BitVec 32 := 5#32
  let v731 : BitVec 32 := Scalar.addi v2 c5_i32_718
  let c16_i32_719 : BitVec 32 := 16#32
  let v732 : BitVec 32 := Scalar.addi v731 c16_i32_719
  let c8_i32_720 : BitVec 32 := 8#32
  let v733 : BitVec 32 := Scalar.remsi v732 c8_i32_720
  let c1_i32_723 : BitVec 32 := 1#32
  let v734 : BitVec 32 := Scalar.muli v733 c1_i32_723
  let v735 : BitVec 32 := Scalar.addi c0_i32_724 v734
  v735.toNat
def k0_dev22 (d0 : Dev nD) : Nat :=
  let c0_i32_732 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_726 : BitVec 32 := 6#32
  let v741 : BitVec 32 := Scalar.addi v2 c6_i32_726
  let c16_i32_727 : BitVec 32 := 16#32
  let v742 : BitVec 32 := Scalar.addi v741 c16_i32_727
  let c8_i32_728 : BitVec 32 := 8#32
  let v743 : BitVec 32 := Scalar.remsi v742 c8_i32_728
  let c1_i32_731 : BitVec 32 := 1#32
  let v744 : BitVec 32 := Scalar.muli v743 c1_i32_731
  let v745 : BitVec 32 := Scalar.addi c0_i32_732 v744
  v745.toNat
def k0_dev23 (d0 : Dev nD) : Nat :=
  let c0_i32_739 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v751 : BitVec 32 := Scalar.addi v2 c7_i32
  let c16_i32_734 : BitVec 32 := 16#32
  let v752 : BitVec 32 := Scalar.addi v751 c16_i32_734
  let c8_i32_735 : BitVec 32 := 8#32
  let v753 : BitVec 32 := Scalar.remsi v752 c8_i32_735
  let c1_i32_738 : BitVec 32 := 1#32
  let v754 : BitVec 32 := Scalar.muli v753 c1_i32_738
  let v755 : BitVec 32 := Scalar.addi c0_i32_739 v754
  v755.toNat
def k0_off6 (d0 : Dev nD) (c1_i32_669 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v661 : BitVec 32 := Scalar.addi v5 c1_i32_669
  let c16_i32_670 : BitVec 32 := 16#32
  let v662 : BitVec 32 := Scalar.addi v661 c16_i32_670
  let c8_i32_671 : BitVec 32 := 8#32
  let v663 : BitVec 32 := Scalar.remsi v662 c8_i32_671
  let v834 : Index := Scalar.indexCast v663
  let c0_814 : Index := 0#32
  let c0_815 : Index := 0#32
  ![v834.toNat, 0, 0]
def k0_off7 (d0 : Dev nD) (c1_i32_672 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v664 : BitVec 32 := Scalar.subi v5 c1_i32_672
  let c16_i32_673 : BitVec 32 := 16#32
  let v665 : BitVec 32 := Scalar.addi v664 c16_i32_673
  let c8_i32_674 : BitVec 32 := 8#32
  let v666 : BitVec 32 := Scalar.remsi v665 c8_i32_674
  let v848 : Index := Scalar.indexCast v666
  let c0_821 : Index := 0#32
  let c0_822 : Index := 0#32
  ![v848.toNat, 0, 0]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_669 : BitVec 32 := 1#32
  let v661 : BitVec 32 := Scalar.addi v5 c1_i32_669
  let c16_i32_670 : BitVec 32 := 16#32
  let v662 : BitVec 32 := Scalar.addi v661 c16_i32_670
  let c8_i32_671 : BitVec 32 := 8#32
  let v663 : BitVec 32 := Scalar.remsi v662 c8_i32_671
  let c512_i32_833 : BitVec 32 := 512#32
  let v870 : BitVec 32 := Scalar.muli v663 c512_i32_833
  let c0_i32_836 : BitVec 32 := 0#32
  ![v870.toNat, 0]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_672 : BitVec 32 := 1#32
  let v664 : BitVec 32 := Scalar.subi v5 c1_i32_672
  let c16_i32_673 : BitVec 32 := 16#32
  let v665 : BitVec 32 := Scalar.addi v664 c16_i32_673
  let c8_i32_674 : BitVec 32 := 8#32
  let v666 : BitVec 32 := Scalar.remsi v665 c8_i32_674
  let c512_i32_839 : BitVec 32 := 512#32
  let v876 : BitVec 32 := Scalar.muli v666 c512_i32_839
  let c1024_i32 : BitVec 32 := 1024#32
  ![v876.toNat, 1024]
def k0_off10 (d0 : Dev nD) (c0_i32_845 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_844 : BitVec 32 := 1#32
  let v882 : BitVec 32 := Scalar.addi v5 c1_i32_844
  let v883 : BitVec 32 := Scalar.subi v882 c0_i32_845
  let c16_i32_846 : BitVec 32 := 16#32
  let v884 : BitVec 32 := Scalar.addi v883 c16_i32_846
  let c8_i32_847 : BitVec 32 := 8#32
  let v885 : BitVec 32 := Scalar.remsi v884 c8_i32_847
  let c0_i32_856 : BitVec 32 := 0#32
  let c0_i32_857 : BitVec 32 := 0#32
  ![v885.toNat, 0, 0]
def k0_dev24 (d0 : Dev nD) : Nat :=
  let c0_i32_855 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_854 : BitVec 32 := 1#32
  let v890 : BitVec 32 := Scalar.muli v11 c1_i32_854
  let v891 : BitVec 32 := Scalar.addi c0_i32_855 v890
  v891.toNat
def k0_off11 (d0 : Dev nD) (c0_i32_849 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_848 : BitVec 32 := 1#32
  let v886 : BitVec 32 := Scalar.subi v5 c1_i32_848
  let v887 : BitVec 32 := Scalar.addi v886 c0_i32_849
  let c16_i32_850 : BitVec 32 := 16#32
  let v888 : BitVec 32 := Scalar.addi v887 c16_i32_850
  let c8_i32_851 : BitVec 32 := 8#32
  let v889 : BitVec 32 := Scalar.remsi v888 c8_i32_851
  let c0_i32_864 : BitVec 32 := 0#32
  let c0_i32_865 : BitVec 32 := 0#32
  ![v889.toNat, 0, 0]
def k0_dev25 (d0 : Dev nD) : Nat :=
  let c0_i32_863 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.subi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_862 : BitVec 32 := 1#32
  let v900 : BitVec 32 := Scalar.muli v17 c1_i32_862
  let v901 : BitVec 32 := Scalar.addi c0_i32_863 v900
  v901.toNat
def k0_dev26 (d0 : Dev nD) : Nat :=
  let c0_i32_909 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_908 : BitVec 32 := 1#32
  let v946 : BitVec 32 := Scalar.muli v11 c1_i32_908
  let v947 : BitVec 32 := Scalar.addi c0_i32_909 v946
  v947.toNat
def k0_dev27 (d0 : Dev nD) : Nat :=
  let c0_i32_917 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.subi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_916 : BitVec 32 := 1#32
  let v956 : BitVec 32 := Scalar.muli v17 c1_i32_916
  let v957 : BitVec 32 := Scalar.addi c0_i32_917 v956
  v957.toNat
def k0_off12 (d0 : Dev nD) (c0_i32_922 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v966 : BitVec 32 := Scalar.subi v5 c0_i32_922
  let c16_i32_923 : BitVec 32 := 16#32
  let v967 : BitVec 32 := Scalar.addi v966 c16_i32_923
  let c8_i32_924 : BitVec 32 := 8#32
  let v968 : BitVec 32 := Scalar.remsi v967 c8_i32_924
  let c512_i32_938 : BitVec 32 := 512#32
  let v990 : BitVec 32 := Scalar.muli v968 c512_i32_938
  let c0_i32_941 : BitVec 32 := 0#32
  ![v990.toNat, 0]
def k0_off13 (d0 : Dev nD) (c0_i32_925 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v969 : BitVec 32 := Scalar.addi v5 c0_i32_925
  let c16_i32_926 : BitVec 32 := 16#32
  let v970 : BitVec 32 := Scalar.addi v969 c16_i32_926
  let c8_i32_927 : BitVec 32 := 8#32
  let v971 : BitVec 32 := Scalar.remsi v970 c8_i32_927
  let c512_i32_944 : BitVec 32 := 512#32
  let v996 : BitVec 32 := Scalar.muli v971 c512_i32_944
  let c1024_i32_947 : BitVec 32 := 1024#32
  ![v996.toNat, 1024]
def k0_dev28 (d0 : Dev nD) : Nat :=
  let c0_i32_991 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_990 : BitVec 32 := 1#32
  let v1038 : BitVec 32 := Scalar.muli v11 c1_i32_990
  let v1039 : BitVec 32 := Scalar.addi c0_i32_991 v1038
  v1039.toNat
def k0_dev29 (d0 : Dev nD) : Nat :=
  let c0_i32_999 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.subi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_998 : BitVec 32 := 1#32
  let v1048 : BitVec 32 := Scalar.muli v17 c1_i32_998
  let v1049 : BitVec 32 := Scalar.addi c0_i32_999 v1048
  v1049.toNat
def k0_dev30 (d0 : Dev nD) : Nat :=
  let c0_i32_1073 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1072 : BitVec 32 := 1#32
  let v1130 : BitVec 32 := Scalar.muli v11 c1_i32_1072
  let v1131 : BitVec 32 := Scalar.addi c0_i32_1073 v1130
  v1131.toNat
def k0_dev31 (d0 : Dev nD) : Nat :=
  let c0_i32_1081 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.subi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1080 : BitVec 32 := 1#32
  let v1140 : BitVec 32 := Scalar.muli v17 c1_i32_1080
  let v1141 : BitVec 32 := Scalar.addi c0_i32_1081 v1140
  v1141.toNat
def k0_dev32 (d0 : Dev nD) : Nat :=
  let c0_i32_1167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1166 : BitVec 32 := 1#32
  let v1232 : BitVec 32 := Scalar.muli v11 c1_i32_1166
  let v1233 : BitVec 32 := Scalar.addi c0_i32_1167 v1232
  v1233.toNat
def k0_dev33 (d0 : Dev nD) : Nat :=
  let c0_i32_1175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.subi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1174 : BitVec 32 := 1#32
  let v1242 : BitVec 32 := Scalar.muli v17 c1_i32_1174
  let v1243 : BitVec 32 := Scalar.addi c0_i32_1175 v1242
  v1243.toNat
def k0_dev34 (d0 : Dev nD) : Nat :=
  let c0_i32_1261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1260 : BitVec 32 := 1#32
  let v1334 : BitVec 32 := Scalar.muli v11 c1_i32_1260
  let v1335 : BitVec 32 := Scalar.addi c0_i32_1261 v1334
  v1335.toNat
def k0_dev35 (d0 : Dev nD) : Nat :=
  let c0_i32_1269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.subi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1268 : BitVec 32 := 1#32
  let v1344 : BitVec 32 := Scalar.muli v17 c1_i32_1268
  let v1345 : BitVec 32 := Scalar.addi c0_i32_1269 v1344
  v1345.toNat
def k0_dev36 (d0 : Dev nD) : Nat :=
  let c0_i32_1355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1354 : BitVec 32 := 1#32
  let v1436 : BitVec 32 := Scalar.muli v11 c1_i32_1354
  let v1437 : BitVec 32 := Scalar.addi c0_i32_1355 v1436
  v1437.toNat
def k0_dev37 (d0 : Dev nD) : Nat :=
  let c0_i32_1363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.subi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1362 : BitVec 32 := 1#32
  let v1446 : BitVec 32 := Scalar.muli v17 c1_i32_1362
  let v1447 : BitVec 32 := Scalar.addi c0_i32_1363 v1446
  v1447.toNat
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Steps.lean ====
/- The kernel's body as a chain of STEPS. The printed body is one long sequence of memory operations;
   here the same sequence is written in terms of a few steps (one chunk of the product, one send, one wait,
   one accumulation, one dequantised block, …), each over the side of the ring it serves: `false` is ring A
   (the left half of the columns, sent to the right), `true` is ring B (the right half, sent to the left).
   Every step takes what follows it as its last argument. -/
module

public import proofs.«01_k».proof.Proof.Gen.KernelIdeal
public import proofs.«01_k».proof.Proof.Gen.KernelIdeal.Skeleton
public import proofs.«01_k».proof.Proof.Gen.KernelIdeal.Points

@[expose] public section

noncomputable section

namespace Cert.KernelIdeal.Ring

open Cert.KernelIdeal Cert.KernelIdeal.Gen
open Idealize.ShloMosaic Idealize.ShloMosaic.TcCoe Idealize.SL.Sem

variable {F : FTy → Type} [FloatOps F]

/-! ## The buffers -/

abbrev xM : Memref sig .tc .vmem S4096x512 .f32 := Memref.whole cc0_stg0_0
abbrev wM : Memref sig .tc .vmem S512x2048 .f32 := Memref.whole cc0_stg1_0
abbrev outM : Memref sig .tc .hbm S4096x2048 .f32 := Memref.whole main_v1
/-- The chunk a device receives in each step of the reduce-scatter, and later stages for the output. -/
def cM (b : Bool) : Memref sig .tc .vmem S7x512x1024 .f32 :=
  match b with | false => Memref.whole cc0_scratch0 | true => Memref.whole cc0_scratch1
/-- The device's own product for the chunk it is about to add. -/
def pM (b : Bool) : Memref sig .tc .vmem S512x1024 .f32 :=
  match b with | false => Memref.whole cc0_scratch2 | true => Memref.whole cc0_scratch3
/-- The first chunk a device sends. -/
def gM (b : Bool) : Memref sig .tc .vmem S512x1024 .f32 :=
  match b with | false => Memref.whole cc0_scratch4 | true => Memref.whole cc0_scratch5
/-- The quantised blocks. -/
def qM (b : Bool) : Memref sig .tc .vmem S8x512x1024 .i8 :=
  match b with | false => Memref.whole cc0_scratch6 | true => Memref.whole cc0_scratch7
abbrev axS : Memref sig .tc .vmem S1x128 .f32 := Memref.whole cc0_scratch8
abbrev axB : Memref sig .tc .vmem S8x128 .f32 := Memref.whole cc0_scratch9

theorem cM_whole (b : Bool) : (cM b).IsWhole := by cases b <;> exact Memref.isWhole_whole _
theorem pM_whole (b : Bool) : (pM b).IsWhole := by cases b <;> exact Memref.isWhole_whole _
theorem gM_whole (b : Bool) : (gM b).IsWhole := by cases b <;> exact Memref.isWhole_whole _
theorem qM_whole (b : Bool) : (qM b).IsWhole := by cases b <;> exact Memref.isWhole_whole _

/-! ## The semaphores: ten arrays of seven, two of three -/

/-- Cell `s` of array `k`: reduce-scatter send and receive of A (0, 1) and B (2, 3), all-gather send and receive of
    A (4, 5) and B (6, 7), maxima send and receive (8, 9). -/
def cell (k : Fin 10) (s : Fin 7) : DmaSem sig := ⟨2 + 7 * k.val + s.val, by have := k.isLt; have := s.isLt; show _ < 78; omega⟩
/-- The staging cell of slot `u` on side `b`. -/
def stCell (b : Bool) (u : Fin 3) : DmaSem sig :=
  match b with
  | false => ⟨72 + u.val, by have := u.isLt; show _ < 78; omega⟩
  | true => ⟨75 + u.val, by have := u.isLt; show _ < 78; omega⟩
/-- The cell of a send (`false`) or receive (`true`) of the reduce-scatter. -/
def rsK (b r : Bool) : Fin 10 := match b, r with | false, false => 0 | false, true => 1 | true, false => 2 | true, true => 3
def agK (b r : Bool) : Fin 10 := match b, r with | false, false => 4 | false, true => 5 | true, false => 6 | true, true => 7
def axK (r : Bool) : Fin 10 := match r with | false => 8 | true => 9

/-! ## The rectangles and the windows -/

theorem slot_inb (s : Fin 7) : ∀ a, (![s.val, 0, 0] : Fin 3 → ℕ) a + S1x512x1024.size a ≤ S7x512x1024.size a := by
  revert s; decide
abbrev slotR (s : Fin 7) : Rect S7x512x1024 := Rect.unit (s := S7x512x1024) ![s.val, 0, 0] S1x512x1024.size (slot_inb s)
/-- Slot `s` of a chunk buffer, as one chunk. -/
def slotM (b : Bool) (s : Fin 7) : Memref sig .tc .vmem S512x1024 .f32 :=
  ((cM b).slice (slotR s) (fun _ => rfl)).squeeze S512x1024 squeezes_S1x512x1024_S512x1024
theorem slotM_exact (b : Bool) (s : Fin 7) : (slotM b s).view.WordExact := (View.wordExact_bits rfl).reshape _ _

abbrev blkR (o : Fin 3 → ℕ) (h : ∀ a, o a + S1x512x1024.size a ≤ S8x512x1024.size a) : Rect S8x512x1024 :=
  Rect.unit (s := S8x512x1024) o S1x512x1024.size h
/-- A block of the quantised buffer, as one chunk. -/
def blkM (b : Bool) (o : Fin 3 → ℕ) (h : ∀ a, o a + S1x512x1024.size a ≤ S8x512x1024.size a) :
    Memref sig .tc .vmem S512x1024 .i8 :=
  ((qM b).slice (blkR o h) (fun _ => rfl)).squeeze S512x1024 squeezes_S1x512x1024_S512x1024
theorem blkM_exact (b : Bool) (o : Fin 3 → ℕ) (h : ∀ a, o a + S1x512x1024.size a ≤ S8x512x1024.size a)
    (hw : (blkR o h).WholeWords (EltTy.packing .i8)) : (blkM b o h).view.WordExact :=
  ((qM_whole b).wordExact_slice rfl _ hw).reshape _ _

/-- A window of the output. -/
def winM (o : Fin 2 → ℕ) (h : ∀ a, o a + S512x1024.size a ≤ S4096x2048.size a) : Memref sig .tc .hbm S512x1024 .f32 :=
  outM.slice (Rect.unit (s := S4096x2048) o S512x1024.size h) (fun _ => rfl)
theorem winM_exact (o : Fin 2 → ℕ) (h : ∀ a, o a + S512x1024.size a ≤ S4096x2048.size a) : (winM o h).view.WordExact :=
  View.wordExact_bits rfl
/-- A row of the maxima's buffer. -/
def rowM (o : Fin 2 → ℕ) (h : ∀ a, o a + S1x128.size a ≤ S8x128.size a) : Memref sig .tc .vmem S1x128 .f32 :=
  axB.slice (Rect.unit (s := S8x128) o S1x128.size h) (fun _ => rfl)
theorem rowM_exact (o : Fin 2 → ℕ) (h : ∀ a, o a + S1x128.size a ≤ S8x128.size a) : (rowM o h).view.WordExact :=
  View.wordExact_bits rfl

/-! ## What is computed -/

/-- One chunk of the product: 512 rows of the device's columns of x against its rows of w. -/
def chunkV (xv : Vec F S512x512 .f32) (wv : Vec F S512x1024 .f32) : FVec F S512x1024 .f32 :=
  shapeCast S512x1024 (matmul dot_S512x512_S512x1024_S512x1024_1_0_0_1_n_n (some .fp32)
    (shapeCast S512x512 xv shapeCasts_S512x512_S512x512) (shapeCast S512x1024 wv shapeCasts_S512x1024_S512x1024)
    (constant S512x1024 .f32 0x00000000#32)) shapeCasts_S512x1024_S512x1024
/-- A received chunk with the device's own added. -/
def accV (cv : Vec F S1x512x1024 .f32) (pv : Vec F S512x1024 .f32) : FVec F S1x512x1024 .f32 :=
  shapeCast S1x512x1024 (addf (shapeCast S512x1024 cv shapeCasts_S1x512x1024_S512x1024) pv) shapeCasts_S512x1024_S1x512x1024
/-- A quantised block times the scale. -/
def deqV (sc : F .f32) (qv : Vec F S1x512x1024 .i8) : FVec F S1x512x1024 .f32 :=
  shapeCast S1x512x1024 (mulf (sitofp .f32 (shapeCast S512x1024 qv shapeCasts_S1x512x1024_S512x1024 : IVec S512x1024 8))
    (broadcast S512x1024 sc)) shapeCasts_S512x1024_S1x512x1024

/-! ## The steps -/

variable (F) in
/-- The kernel's programs. -/
abbrev Pg : Type 1 := Prog (TpuEff nD τ sig (Elt F) Λ₀ .tc) PUnit

def barrierStep (l r : Dev nD) (k : Pg F) : Pg F :=
  .op (.semSignal (l, .tc) (sig.barrier 0 rfl) (1#32 : BitVec 32).toInt) fun _ =>
  .op (.semSignal (r, .tc) (sig.barrier 0 rfl) (1#32 : BitVec 32).toInt) fun _ =>
  .op (.semWait (sig.barrier 0 rfl) (2#32 : BitVec 32).toInt) fun _ => k

/-- Where a side's half of w's columns starts. -/
def wcol (b : Bool) : Fin 2 → ℕ := match b with | false => ![0, 0] | true => ![0, 1024]
theorem wcol_inb (b : Bool) : ∀ a, wcol b a + S512x1024.size a ≤ S512x2048.size a := by
  revert b; decide

def chunkStep (b : Bool) (dst : Memref sig .tc .vmem S512x1024 .f32) (o : Fin 2 → ℕ)
    (h : ∀ a, o a + S512x512.size a ≤ S4096x512.size a) (k : Pg F) : Pg F :=
  .op (.load xM (Rect.unit (s := S4096x512) o S512x512.size h).toLoadRect (View.loadsAt_vmem h_S512x512)) fun xv =>
  .op (.load wM (Rect.unit (s := S512x2048) (wcol b) S512x1024.size (wcol_inb b)).toLoadRect
    (View.loadsAt_vmem h_S512x1024)) fun wv =>
  .op (.load dst (Rect.unit (s := S512x1024) ![0, 0] S512x1024.size inb_S512x1024_S512x1024_0_0).toLoadRect
    (View.loadsAt_vmem h_S512x1024)) fun _ =>
  .op (.store dst (Rect.unit (s := S512x1024) ![0, 0] S512x1024.size inb_S512x1024_S512x1024_0_0) (chunkV xv wv) Finset.univ
    (View.stores_vmem_bits_univ h_S512x1024 rfl) (.inl rfl)) fun _ => k

def sendStep {s : Shape} {e : EltTy} (dev : Dev nD) (src dst : Memref sig .tc .vmem s e) (hs : src.view.WordExact)
    (hd : dst.view.WordExact) (cs cr : DmaSem sig) (k : Pg F) : Pg F :=
  .op (.enqueueDma src (.remote (Dev.tc dev) dst (.dma cs)) (.dma cr) hs hd ⟨⟨rfl, Or.inl rfl⟩, trivial⟩) fun _ => k

def waitStep {s : Shape} {e : EltTy} {sp sp' : Space} (c : DmaSem sig) (src : Memref sig .tc sp s e) (dst : Memref sig .tc sp' s e)
    (hs : src.view.WordExact) (hd : dst.view.WordExact) (k : Pg F) : Pg F :=
  .op (.waitDma2 c src dst hs hd) fun _ => k

def accStep (b : Bool) (s : Fin 7) (k : Pg F) : Pg F :=
  .op (.load (cM b) (slotR s).toLoadRect (View.loadsAt_vmem h_S1x512x1024)) fun cv =>
  .op (.load (pM b) (Rect.unit (s := S512x1024) ![0, 0] S512x1024.size inb_S512x1024_S512x1024_0_0).toLoadRect
    (View.loadsAt_vmem h_S512x1024)) fun pv =>
  .op (.load (cM b) (slotR s).toLoadRect (View.loadsAt_vmem h_S1x512x1024)) fun _ =>
  .op (.store (cM b) (slotR s) (accV cv pv) Finset.univ (View.stores_vmem_bits_univ h_S1x512x1024 rfl) (.inl rfl)) fun _ => k

/-- One step of the reduce-scatter: both sends, both own chunks, the four waits, both accumulations. -/
def rsStep (d : Dev nD) (s : Fin 7) (dA dB : Dev nD) (sA sB : Memref sig .tc .vmem S512x1024 .f32)
    (hA : sA.view.WordExact) (hB : sB.view.WordExact) (k : Pg F) : Pg F :=
  sendStep dA sA (slotM false s) hA (slotM_exact _ _) (cell (rsK false false) s) (cell (rsK false true) s) <|
  sendStep dB sB (slotM true s) hB (slotM_exact _ _) (cell (rsK true false) s) (cell (rsK true true) s) <|
  chunkStep false (pM false) (k0_off2 d (BitVec.ofNat 32 s.val)) (k0_off2_inb d s) <|
  chunkStep true (pM true) (k0_off3 d (BitVec.ofNat 32 s.val)) (k0_off3_inb d s) <|
  waitStep (cell (rsK false false) s) (slotM false s) sA (slotM_exact _ _) hA <|
  waitStep (cell (rsK false true) s) sA (slotM false s) hA (slotM_exact _ _) <|
  waitStep (cell (rsK true false) s) (slotM true s) sB (slotM_exact _ _) hB <|
  waitStep (cell (rsK true true) s) sB (slotM true s) hB (slotM_exact _ _) <|
  accStep false s <| accStep true s k

/-- The device's maximum, into its source row and its own row of the buffer. -/
def axStore (d : Dev nD) (k : Pg F) : Pg F :=
  .op (.load (cM false) (slotR 6).toLoadRect (View.loadsAt_vmem h_S1x512x1024)) fun av =>
  .op (.load (cM true) (slotR 6).toLoadRect (View.loadsAt_vmem h_S1x512x1024)) fun bv =>
  .op (.load axS (Rect.unit (s := S1x128) ![0, 0] S1x128.size inb_S1x128_S1x128_0_0).toLoadRect (View.loadsAt_vmem h_S1x128)) fun _ =>
  .op (.store axS (Rect.unit (s := S1x128) ![0, 0] S1x128.size inb_S1x128_S1x128_0_0) (k0_pay39 av bv) Finset.univ
    (View.stores_vmem_bits_univ h_S1x128 rfl) (.inl rfl)) fun _ =>
  .op (.load axB (Rect.unit (s := S8x128) (k0_off4 d) S1x128.size (k0_off4_inb d)).toLoadRect (View.loadsAt_vmem h_S1x128)) fun _ =>
  .op (.store axB (Rect.unit (s := S8x128) (k0_off4 d) S1x128.size (k0_off4_inb d)) (k0_pay40 av bv) Finset.univ
    (View.stores_vmem_bits_univ h_S1x128 rfl) (.inl rfl)) fun _ => k

def axSend (d : Dev nD) (s : Fin 7) (dev : Dev nD) (k : Pg F) : Pg F :=
  sendStep dev axS (rowM (k0_off5 d) (k0_off5_inb d)) (Memref.isWhole_whole _).wordExact (rowM_exact _ _)
    (cell (axK false) s) (cell (axK true) s) k

def axWait (d : Dev nD) (s : Fin 7) (k : Pg F) : Pg F :=
  waitStep (cell (axK false) s) (rowM (k0_off5 d) (k0_off5_inb d)) axS (rowM_exact _ _) (Memref.isWhole_whole _).wordExact <|
  waitStep (cell (axK true) s) axS (rowM (k0_off5 d) (k0_off5_inb d)) (Memref.isWhole_whole _).wordExact (rowM_exact _ _) k

/-- One side's reduced chunk quantised into its block. -/
def quantStep (b : Bool) (o : Fin 3 → ℕ) (h : ∀ a, o a + S1x512x1024.size a ≤ S8x512x1024.size a)
    (hp : (blkR o h).PackedRows (EltTy.packing .i8)) (axv : Vec F S8x128 .f32) (k : Pg F) : Pg F :=
  .op (.load (cM b) (slotR 6).toLoadRect (View.loadsAt_vmem h_S1x512x1024)) fun cv =>
  .op (.load (qM b) (blkR o h).toLoadRect (View.loadsAt_vmem h_S1x512x1024)) fun _ =>
  .op (.store (qM b) (blkR o h) (k0_pay44 axv cv) Finset.univ
    (View.stores_vmem h_S1x512x1024 ((qM_whole b).storeExact_slice rfl _ hp) (fun _ => rfl)) (.inl rfl)) fun _ => k

/-- One side's block dequantised into a staging slot. -/
def deqStep (b : Bool) (u : Fin 7) (o : Fin 3 → ℕ) (h : ∀ a, o a + S1x512x1024.size a ≤ S8x512x1024.size a)
    (sc : F .f32) (k : Pg F) : Pg F :=
  .op (.load (qM b) (blkR o h).toLoadRect (View.loadsAt_vmem h_S1x512x1024)) fun qv =>
  .op (.load (cM b) (slotR u).toLoadRect (View.loadsAt_vmem h_S1x512x1024)) fun _ =>
  .op (.store (cM b) (slotR u) (deqV sc qv) Finset.univ (View.stores_vmem_bits_univ h_S1x512x1024 rfl) (.inl rfl)) fun _ => k

/-- A staging slot copied to its window of the output. -/
def copyStep (b : Bool) (u : Fin 3) (o : Fin 2 → ℕ) (h : ∀ a, o a + S512x1024.size a ≤ S4096x2048.size a) (k : Pg F) : Pg F :=
  .op (.enqueueDma (slotM b (u.castLE (by decide))) (.here (winM o h)) (.dma (stCell b u)) (slotM_exact _ _) (winM_exact _ _)
    ⟨Or.inl rfl, trivial⟩) fun _ => k

def stWait (b : Bool) (u : Fin 3) (k : Pg F) : Pg F :=
  match b with
  | false => waitStep (stCell false u) (slotM false (u.castLE (by decide))) (winM ![0, 0] inb_S4096x2048_S512x1024_0_0) (slotM_exact _ _) (winM_exact _ _) k
  | true => waitStep (stCell true u) (slotM true (u.castLE (by decide))) (winM ![0, 1024] inb_S4096x2048_S512x1024_0_1024) (slotM_exact _ _) (winM_exact _ _) k

/-- The sends of step `t` of the all-gather. -/
def agSend (d : Dev nD) (t : Fin 7) (dA dB : Dev nD) (k : Pg F) : Pg F :=
  sendStep dA (blkM false (k0_off10 d (BitVec.ofNat 32 t.val)) (k0_off10_inb d t)) (blkM false (k0_off10 d (BitVec.ofNat 32 t.val)) (k0_off10_inb d t))
    (blkM_exact _ _ _ (k0_off10_wordsi8 d t)) (blkM_exact _ _ _ (k0_off10_wordsi8 d t)) (cell (agK false false) t) (cell (agK false true) t) <|
  sendStep dB (blkM true (k0_off11 d (BitVec.ofNat 32 t.val)) (k0_off11_inb d t)) (blkM true (k0_off11 d (BitVec.ofNat 32 t.val)) (k0_off11_inb d t))
    (blkM_exact _ _ _ (k0_off11_wordsi8 d t)) (blkM_exact _ _ _ (k0_off11_wordsi8 d t)) (cell (agK true false) t) (cell (agK true true) t) k

def agWait (d : Dev nD) (t : Fin 7) (k : Pg F) : Pg F :=
  waitStep (cell (agK false false) t) (blkM false (k0_off10 d (BitVec.ofNat 32 t.val)) (k0_off10_inb d t)) (blkM false (k0_off10 d (BitVec.ofNat 32 t.val)) (k0_off10_inb d t))
    (blkM_exact _ _ _ (k0_off10_wordsi8 d t)) (blkM_exact _ _ _ (k0_off10_wordsi8 d t)) <|
  waitStep (cell (agK false true) t) (blkM false (k0_off10 d (BitVec.ofNat 32 t.val)) (k0_off10_inb d t)) (blkM false (k0_off10 d (BitVec.ofNat 32 t.val)) (k0_off10_inb d t))
    (blkM_exact _ _ _ (k0_off10_wordsi8 d t)) (blkM_exact _ _ _ (k0_off10_wordsi8 d t)) <|
  waitStep (cell (agK true false) t) (blkM true (k0_off11 d (BitVec.ofNat 32 t.val)) (k0_off11_inb d t)) (blkM true (k0_off11 d (BitVec.ofNat 32 t.val)) (k0_off11_inb d t))
    (blkM_exact _ _ _ (k0_off11_wordsi8 d t)) (blkM_exact _ _ _ (k0_off11_wordsi8 d t)) <|
  waitStep (cell (agK true true) t) (blkM true (k0_off11 d (BitVec.ofNat 32 t.val)) (k0_off11_inb d t)) (blkM true (k0_off11 d (BitVec.ofNat 32 t.val)) (k0_off11_inb d t))
    (blkM_exact _ _ _ (k0_off11_wordsi8 d t)) (blkM_exact _ _ _ (k0_off11_wordsi8 d t)) k

/-- The received blocks of step `t` dequantised into slot `u` and copied out. -/
def agOut (d : Dev nD) (t : Fin 7) (u : Fin 3) (sc : F .f32) (k : Pg F) : Pg F :=
  deqStep false (u.castLE (by decide)) (k0_off7 d (BitVec.ofNat 32 t.val)) (k0_off7_inb d t) sc <|
  deqStep true (u.castLE (by decide)) (k0_off6 d (BitVec.ofNat 32 t.val)) (k0_off6_inb d t) sc <|
  copyStep false u (k0_off12 d (BitVec.ofNat 32 t.val)) (k0_off12_inb d t) <|
  copyStep true u (k0_off13 d (BitVec.ofNat 32 t.val)) (k0_off13_inb d t) k

def agTail (d : Dev nD) (sc : F .f32) : Pg F :=
  agSend d 0 ⟨k0_dev24 d, k0_dev24_lt d⟩ ⟨k0_dev25 d, k0_dev25_lt d⟩ <|
  agWait d 0 <| agSend d 1 ⟨k0_dev26 d, k0_dev26_lt d⟩ ⟨k0_dev27 d, k0_dev27_lt d⟩ <| agOut d 0 0 sc <|
  agWait d 1 <| agSend d 2 ⟨k0_dev28 d, k0_dev28_lt d⟩ ⟨k0_dev29 d, k0_dev29_lt d⟩ <| agOut d 1 1 sc <|
  agWait d 2 <| agSend d 3 ⟨k0_dev30 d, k0_dev30_lt d⟩ ⟨k0_dev31 d, k0_dev31_lt d⟩ <| stWait false 0 <| stWait true 0 <| agOut d 2 0 sc <|
  agWait d 3 <| agSend d 4 ⟨k0_dev32 d, k0_dev32_lt d⟩ ⟨k0_dev33 d, k0_dev33_lt d⟩ <| stWait false 1 <| stWait true 1 <| agOut d 3 1 sc <|
  agWait d 4 <| agSend d 5 ⟨k0_dev34 d, k0_dev34_lt d⟩ ⟨k0_dev35 d, k0_dev35_lt d⟩ <| stWait false 0 <| stWait true 0 <| agOut d 4 0 sc <|
  agWait d 5 <| agSend d 6 ⟨k0_dev36 d, k0_dev36_lt d⟩ ⟨k0_dev37 d, k0_dev37_lt d⟩ <| stWait false 1 <| stWait true 1 <| agOut d 5 1 sc <|
  agWait d 6 <| stWait false 0 <| stWait true 0 <| agOut d 6 0 sc <|
  stWait false 0 <| stWait true 0 <| stWait false 1 <| stWait true 1 <| stWait false 2 <| stWait true 2 <| .ret ⟨⟩

def quantTail (d : Dev nD) : Pg F :=
  .op (.load axB (Rect.unit (s := S8x128) ![0, 0] S8x128.size inb_S8x128_S8x128_0_0).toLoadRect (View.loadsAt_vmem h_S8x128)) fun axv =>
  quantStep false (k0_off6 d (BitVec.ofNat 32 (1 : Fin 7).val)) (k0_off6_inb d 1) (k0_off6_packedi8 d 1) axv <|
  quantStep true (k0_off7 d (BitVec.ofNat 32 (1 : Fin 7).val)) (k0_off7_inb d 1) (k0_off7_packedi8 d 1) axv <|
  deqStep false 2 (k0_off6 d (BitVec.ofNat 32 (1 : Fin 7).val)) (k0_off6_inb d 1) (k0_pay42 axv) <|
  deqStep true 2 (k0_off7 d (BitVec.ofNat 32 (1 : Fin 7).val)) (k0_off7_inb d 1) (k0_pay42 axv) <|
  copyStep false 2 (k0_off8 d) (k0_off8_inb d) <|
  copyStep true 2 (k0_off9 d) (k0_off9_inb d) <| agTail d (k0_pay42 axv)

def axTail (d : Dev nD) : Pg F :=
  axStore d <|
  axSend d 0 ⟨k0_dev17 d, k0_dev17_lt d⟩ <| axSend d 1 ⟨k0_dev18 d, k0_dev18_lt d⟩ <|
  axSend d 2 ⟨k0_dev19 d, k0_dev19_lt d⟩ <| axSend d 3 ⟨k0_dev20 d, k0_dev20_lt d⟩ <|
  axSend d 4 ⟨k0_dev21 d, k0_dev21_lt d⟩ <| axSend d 5 ⟨k0_dev22 d, k0_dev22_lt d⟩ <|
  axSend d 6 ⟨k0_dev23 d, k0_dev23_lt d⟩ <|
  axWait d 0 <| axWait d 1 <| axWait d 2 <| axWait d 3 <| axWait d 4 <| axWait d 5 <| axWait d 6 <| quantTail d

def rsTail (d : Dev nD) : Pg F :=
  rsStep d 0 ⟨k0_dev3 d, k0_dev3_lt d⟩ ⟨k0_dev4 d, k0_dev4_lt d⟩ (gM false) (gM true) (gM_whole _).wordExact (gM_whole _).wordExact <|
  rsStep d 1 ⟨k0_dev5 d, k0_dev5_lt d⟩ ⟨k0_dev6 d, k0_dev6_lt d⟩ (slotM false 0) (slotM true 0) (slotM_exact _ _) (slotM_exact _ _) <|
  rsStep d 2 ⟨k0_dev7 d, k0_dev7_lt d⟩ ⟨k0_dev8 d, k0_dev8_lt d⟩ (slotM false 1) (slotM true 1) (slotM_exact _ _) (slotM_exact _ _) <|
  rsStep d 3 ⟨k0_dev9 d, k0_dev9_lt d⟩ ⟨k0_dev10 d, k0_dev10_lt d⟩ (slotM false 2) (slotM true 2) (slotM_exact _ _) (slotM_exact _ _) <|
  rsStep d 4 ⟨k0_dev11 d, k0_dev11_lt d⟩ ⟨k0_dev12 d, k0_dev12_lt d⟩ (slotM false 3) (slotM true 3) (slotM_exact _ _) (slotM_exact _ _) <|
  rsStep d 5 ⟨k0_dev13 d, k0_dev13_lt d⟩ ⟨k0_dev14 d, k0_dev14_lt d⟩ (slotM false 4) (slotM true 4) (slotM_exact _ _) (slotM_exact _ _) <|
  rsStep d 6 ⟨k0_dev15 d, k0_dev15_lt d⟩ ⟨k0_dev16 d, k0_dev16_lt d⟩ (slotM false 5) (slotM true 5) (slotM_exact _ _) (slotM_exact _ _) <|
  axTail d

/-- The whole body on device `d`. -/
def bodyOn (d : Dev nD) : Pg F :=
  barrierStep ⟨k0_dev1 d, k0_dev1_lt d⟩ ⟨k0_dev2 d, k0_dev2_lt d⟩ <|
  chunkStep false (gM false) (k0_off1 d) (k0_off1_inb d) <|
  chunkStep true (gM true) (k0_off1 d) (k0_off1_inb d) <| rsTail d

end Cert.KernelIdeal.Ring

end
-- ==== Proof.Contents.lean ====
/- The ring of devices and what each buffer holds when. A device's PLACE on the ring is its id, the last four reversed.
   Side `false` (ring A) sends to the next place, side `true` (ring B) to the one before. The device at place `p` is the
   last to add to chunk `p + 1` of side A and `p - 1` of side B. -/
module

public import proofs.«01_k».proof.Proof.Steps
public import Idealize.ShloMosaic.Lib.Pipeline.Value
public import Idealize.ShloMosaic.Lib.Pointwise.Index

@[expose] public section

noncomputable section

namespace Cert.KernelIdeal.Ring

open Cert.KernelIdeal Cert.KernelIdeal.Gen
open Idealize.ShloMosaic Idealize.ShloMosaic.TcCoe Idealize.SL.Sem

/-! ## The ring -/

/-- A device's place, and the device at a place. -/
def pos (c : Dev nD) : Fin 8 := ⟨if c.val < 4 then c.val else 11 - c.val, by have : c.val < 8 := c.isLt; split <;> omega⟩
def dat (p : Fin 8) : Dev nD := ⟨if p.val < 4 then p.val else 11 - p.val, by show _ < 8; have := p.isLt; split <;> omega⟩
/-- The place `n` further on. -/
def plus (p : Fin 8) (n : ℕ) : Fin 8 := ⟨(p.val + n) % 8, Nat.mod_lt _ (by decide)⟩
/-- The device that side `b` sends to, and the one it receives from. -/
def nb (b : Bool) (c : Dev nD) : Dev nD := dat (plus (pos c) (match b with | false => 1 | true => 7))
def pv (b : Bool) (c : Dev nD) : Dev nD := dat (plus (pos c) (match b with | false => 7 | true => 1))

theorem pos_dat (p : Fin 8) : pos (dat p) = p := by revert p; decide
theorem dat_pos (c : Dev nD) : dat (pos c) = c := by revert c; decide
theorem pv_nb (b : Bool) (c : Dev nD) : pv b (nb b c) = c := by revert b c; decide
theorem nb_pv (b : Bool) (c : Dev nD) : nb b (pv b c) = c := by revert b c; decide
theorem pv_not (b : Bool) (c : Dev nD) : pv (!b) c = nb b c := by revert b c; decide
def ring (b : Bool) : Dev nD ≃ Dev nD := ⟨nb b, pv b, pv_nb b, nb_pv b⟩

/-- The device `s + 1` ids further on, and the one as far back. -/
def peer (s : Fin 7) (c : Dev nD) : Dev nD := ⟨(c.val + s.val + 1) % 8, Nat.mod_lt _ (by decide)⟩
def from' (s : Fin 7) (c : Dev nD) : Dev nD := ⟨(c.val + 7 - s.val) % 8, Nat.mod_lt _ (by decide)⟩
theorem from_peer (s : Fin 7) (c : Dev nD) : from' s (peer s c) = c := by revert s c; decide
theorem peer_from (s : Fin 7) (c : Dev nD) : peer s (from' s c) = c := by revert s c; decide
def shift (s : Fin 7) : Dev nD ≃ Dev nD := ⟨peer s, from' s, from_peer s, peer_from s⟩

/-- The chunk a place adds in step `s` of the reduce-scatter. -/
def chI (b : Bool) (p : Fin 8) (s : ℕ) : Fin 8 :=
  match b with | false => plus p (15 - s) | true => plus p (s + 1)
/-- The block a place sends in step `t` of the all-gather; the block of step 0 is its own. -/
def agI (b : Bool) (p : Fin 8) (t : ℕ) : Fin 8 :=
  match b with | false => plus p (17 - t) | true => plus p (t + 7)
/-- The device that owns a block. -/
def owner (b : Bool) (g : Fin 8) : Dev nD :=
  match b with | false => dat (plus g 7) | true => dat (plus g 1)

theorem agI_pv (b : Bool) (c : Dev nD) (t : Fin 7) : agI b (pos (pv b c)) t.val = agI b (pos c) (t.val + 1) := by revert b c t; decide
theorem agI_nb (b : Bool) (c : Dev nD) (t : Fin 7) : agI b (pos (nb b c)) (t.val + 1) = agI b (pos c) t.val := by revert b c t; decide
theorem owner_own (b : Bool) (c : Dev nD) : owner b (agI b (pos c) 0) = c := by revert b c; decide

/-! ## The printed indices -/

theorem dev1_val : ∀ c : Dev nD, k0_dev1 c = (nb true c).val := by decide +kernel
theorem dev2_val : ∀ c : Dev nD, k0_dev2 c = (nb false c).val := by decide +kernel
theorem dev1_eq (c : Dev nD) : (⟨k0_dev1 c, k0_dev1_lt c⟩ : Dev nD) = nb true c := Fin.ext (dev1_val c)
theorem dev2_eq (c : Dev nD) : (⟨k0_dev2 c, k0_dev2_lt c⟩ : Dev nD) = nb false c := Fin.ext (dev2_val c)

/-- The devices the two sends of step `s` of the reduce-scatter name, and of step `t` of the all-gather, and send `s`
    of the maxima. -/
def rsDev (b : Bool) (s : Fin 7) (c : Dev nD) : ℕ :=
  match b with
  | false => (![k0_dev3 c, k0_dev5 c, k0_dev7 c, k0_dev9 c, k0_dev11 c, k0_dev13 c, k0_dev15 c] : Fin 7 → ℕ) s
  | true => (![k0_dev4 c, k0_dev6 c, k0_dev8 c, k0_dev10 c, k0_dev12 c, k0_dev14 c, k0_dev16 c] : Fin 7 → ℕ) s
def agDev (b : Bool) (t : Fin 7) (c : Dev nD) : ℕ :=
  match b with
  | false => (![k0_dev24 c, k0_dev26 c, k0_dev28 c, k0_dev30 c, k0_dev32 c, k0_dev34 c, k0_dev36 c] : Fin 7 → ℕ) t
  | true => (![k0_dev25 c, k0_dev27 c, k0_dev29 c, k0_dev31 c, k0_dev33 c, k0_dev35 c, k0_dev37 c] : Fin 7 → ℕ) t
def axDev (s : Fin 7) (c : Dev nD) : ℕ :=
  (![k0_dev17 c, k0_dev18 c, k0_dev19 c, k0_dev20 c, k0_dev21 c, k0_dev22 c, k0_dev23 c] : Fin 7 → ℕ) s

theorem rsDev_eq : ∀ (b : Bool) (s : Fin 7) (c : Dev nD), rsDev b s c = (nb b c).val := by decide +kernel
theorem agDev_eq : ∀ (b : Bool) (s : Fin 7) (c : Dev nD), agDev b s c = (nb b c).val := by decide +kernel
theorem axDev_eq : ∀ (s : Fin 7) (c : Dev nD), axDev s c = (peer s c).val := by decide +kernel

theorem off1_eq : ∀ c : Dev nD, k0_off1 c = ![512 * (pos c).val, 0] := by decide +kernel
theorem off2_eq : ∀ (c : Dev nD) (s : Fin 7), k0_off2 c (BitVec.ofNat 32 s.val) = ![512 * (chI false (pos c) s.val).val, 0] := by decide +kernel
theorem off3_eq : ∀ (c : Dev nD) (s : Fin 7), k0_off3 c (BitVec.ofNat 32 s.val) = ![512 * (chI true (pos c) s.val).val, 0] := by decide +kernel
theorem off4_eq : ∀ c : Dev nD, k0_off4 c = ![c.val, 0] := by decide +kernel
theorem off5_eq : ∀ c : Dev nD, k0_off5 c = ![c.val, 0] := by decide +kernel
theorem off6_own : ∀ c : Dev nD, k0_off6 c (BitVec.ofNat 32 (1 : Fin 7).val) = ![(agI false (pos c) 0).val, 0, 0] := by decide +kernel
theorem off7_own : ∀ c : Dev nD, k0_off7 c (BitVec.ofNat 32 (1 : Fin 7).val) = ![(agI true (pos c) 0).val, 0, 0] := by decide +kernel
theorem off7_eq : ∀ (c : Dev nD) (t : Fin 7), k0_off7 c (BitVec.ofNat 32 t.val) = ![(agI false (pos c) (t.val + 1)).val, 0, 0] := by decide +kernel
theorem off6_eq : ∀ (c : Dev nD) (t : Fin 7), k0_off6 c (BitVec.ofNat 32 t.val) = ![(agI true (pos c) (t.val + 1)).val, 0, 0] := by decide +kernel
theorem off8_eq : ∀ c : Dev nD, k0_off8 c = ![512 * (agI false (pos c) 0).val, 0] := by decide +kernel
theorem off9_eq : ∀ c : Dev nD, k0_off9 c = ![512 * (agI true (pos c) 0).val, 1024] := by decide +kernel
theorem off10_eq : ∀ (c : Dev nD) (t : Fin 7), k0_off10 c (BitVec.ofNat 32 t.val) = ![(agI false (pos c) t.val).val, 0, 0] := by decide +kernel
theorem off11_eq : ∀ (c : Dev nD) (t : Fin 7), k0_off11 c (BitVec.ofNat 32 t.val) = ![(agI true (pos c) t.val).val, 0, 0] := by decide +kernel
theorem off12_eq : ∀ (c : Dev nD) (t : Fin 7), k0_off12 c (BitVec.ofNat 32 t.val) = ![512 * (agI false (pos c) (t.val + 1)).val, 0] := by decide +kernel
theorem off13_eq : ∀ (c : Dev nD) (t : Fin 7), k0_off13 c (BitVec.ofNat 32 t.val) = ![512 * (agI true (pos c) (t.val + 1)).val, 1024] := by decide +kernel

/-! ## The parts of the buffers by index -/

theorem xin (g : Fin 8) : ∀ a, (![512 * g.val, 0] : Fin 2 → ℕ) a + S512x512.size a ≤ S4096x512.size a := by revert g; decide
theorem qin (g : Fin 8) : ∀ a, (![g.val, 0, 0] : Fin 3 → ℕ) a + S1x512x1024.size a ≤ S8x512x1024.size a := by revert g; decide
theorem rin (g : Dev nD) : ∀ a, (![g.val, 0] : Fin 2 → ℕ) a + S1x128.size a ≤ S8x128.size a := by revert g; decide
/-- The first column of a side. -/
def colO (b : Bool) : ℕ := match b with | false => 0 | true => 1024
theorem win_inb (b : Bool) (g : Fin 8) : ∀ a, (![512 * g.val, colO b] : Fin 2 → ℕ) a + S512x1024.size a ≤ S4096x2048.size a := by
  revert b g; decide

abbrev xR (g : Fin 8) : Rect S4096x512 := Rect.unit (s := S4096x512) ![512 * g.val, 0] S512x512.size (xin g)
abbrev wR (b : Bool) : Rect S512x2048 := Rect.unit (s := S512x2048) (wcol b) S512x1024.size (wcol_inb b)
/-- Block `g` of the quantised buffer, row `g` of the maxima's, window `(b, g)` of the output. -/
def qB (b : Bool) (g : Fin 8) : Memref sig .tc .vmem S512x1024 .i8 := blkM b ![g.val, 0, 0] (qin g)
def rowD (g : Dev nD) : Memref sig .tc .vmem S1x128 .f32 := rowM ![g.val, 0] (rin g)
def winB (b : Bool) (g : Fin 8) : Memref sig .tc .hbm S512x1024 .f32 := winM ![512 * g.val, colO b] (win_inb b g)
/-- What side `b` sends in step `s` of the reduce-scatter: its first chunk, then the slot it last accumulated into. -/
def srcM (b : Bool) (s : Fin 7) : Memref sig .tc .vmem S512x1024 .f32 :=
  if h : s.val = 0 then gM b else slotM b ⟨s.val - 1, by have := s.isLt; omega⟩

/-! ## What they hold -/

variable {F : FTy → Type} [FloatOps F]
variable (xs : Dev nD → (cc0_stg0_0 : Ref sig .tc).ty.Contents (Elt F)) (ws : Dev nD → (cc0_stg1_0 : Ref sig .tc).ty.Contents (Elt F))

/-- Device `d`'s product for chunk `g` of side `b`. -/
def pch (b : Bool) (d : Dev nD) (g : Fin 8) : S512x1024.Idx → Elt F .f32 :=
  chunkV (fun j => xs d ((xR g).emb j)) (fun j => ws d ((wR b).emb j))
/-- What device `d` sends in step `s`: its own chunk first, then what it received with its own chunk added. -/
def sent (b : Bool) : ℕ → Dev nD → S512x1024.Idx → Elt F .f32
  | 0, d => pch xs ws b d (pos d)
  | s + 1, d => (addf (F := F) (φ := .f32) (sent b s (pv b d)) (pch xs ws b d (chI b (pos d) s)) : FVec F S512x1024 .f32)
/-- A device's reduced chunk, as its slot is read. -/
def redV (b : Bool) (d : Dev nD) : Vec F S1x512x1024 .f32 := shapeCast S1x512x1024 (sent xs ws b 7 d) shapeCasts_S512x1024_S1x512x1024
/-- A device's row of maxima; all of them. -/
def axRow (d : Dev nD) : S1x128.Idx → Elt F .f32 := k0_pay40 (redV xs ws false d) (redV xs ws true d)
def axFull : S8x128.Idx → Elt F .f32 := fun j => axRow xs ws (j 0) (ix2 (0 : Fin 1) (j 1))
/-- Block `g` of side `b`, quantised; and dequantised. -/
def qv (b : Bool) (g : Fin 8) : S512x1024.Idx → Elt F .i8 :=
  shapeCast S512x1024 (k0_pay44 (axFull xs ws) (redV xs ws b (owner b g))) shapeCasts_S1x512x1024_S512x1024
def outv (b : Bool) (g : Fin 8) : S512x1024.Idx → Elt F .f32 :=
  shapeCast S512x1024 (deqV (k0_pay42 (axFull xs ws)) (shapeCast S1x512x1024 (qv xs ws b g) shapeCasts_S512x1024_S1x512x1024))
    shapeCasts_S1x512x1024_S512x1024

theorem pay39_eq (x y : Vec F S1x512x1024 .f32) : k0_pay39 x y = k0_pay40 x y := rfl

end Cert.KernelIdeal.Ring

end
-- ==== Proof.Schedule.lean ====
/- The protocol between the devices, in one round per semaphore.

   Barrier cell: one unit from each neighbour, and with it every part of the neighbour's buffers this device will send
   into (the chunk slots and the quantised blocks of one side).
   Reduce-scatter, step `s`, side `b`: the sender gets its source back; the receiver gets the slot holding what was sent
   (`sent b s`). The copies of side A carry one thing more: rows of the maxima's buffers, travelling round the ring until
   each device holds its own row of every peer's buffer.
   Maxima: the sender gets its part of the source back, the receiver the sender's row of its own buffer.
   All-gather, step `t`: the sender gets back the half of the block it lent, the receiver the block, quantised. -/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.MemrefSat
public import Idealize.ShloMosaic.Lib.Transfers

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's rounds, the ring's rounds, counters for the local copies -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-! ## The cells -/

abbrev barS : Sem sig := sig.barrier 0 rfl
/-- The cells that speak between devices: the barrier, and ten arrays of seven. -/
abbrev CI : Type := Option (Fin 10 × Fin 7)
abbrev semOf : CI → SemLoc sig
  | none => .reg barS
  | some (k, s) => .dma (cell k s)
abbrev cellOn (c : Dev nD) (i : CI) : GSem nD τ sig := ((c : Thread nD τ), semOf i)
abbrev barCell (c : Dev nD) : GSem nD τ sig := cellOn c none
abbrev dcell (k : Fin 10) (s : Fin 7) (c : Dev nD) : GSem nD τ sig := cellOn c (some (k, s))

/-- Which of the seventy a semaphore is. -/
def dec (i : DmaSem sig) : Option (Fin 10 × Fin 7) :=
  if h : 2 ≤ i.val ∧ i.val < 72 then
    some (⟨(i.val - 2) / 7, by omega⟩, ⟨(i.val - 2) % 7, Nat.mod_lt _ (by decide)⟩) else none
theorem dec_cell (k : Fin 10) (s : Fin 7) : dec (cell k s) = some (k, s) := by revert k s; decide +kernel

/-- The units of one transfer on a cell of array `k`. -/
def amt (k : Fin 10) : ℕ :=
  if k.val < 4 then (gM false).view.dmaCredit else if k.val < 8 then (qB false 0).view.dmaCredit else axS.view.dmaCredit

theorem amt_pos (k : Fin 10) : 0 < amt k := by
  unfold amt; split
  · exact View.dmaCredit_pos _ (by decide)
  · split <;> exact View.dmaCredit_pos _ (by decide)

theorem amt_slot (b : Bool) (s : Fin 7) : (slotM b s).view.dmaCredit = (gM false).view.dmaCredit := by cases b <;> rfl
theorem amt_gM (b : Bool) : (gM b).view.dmaCredit = (gM false).view.dmaCredit := by cases b <;> rfl
theorem amt_blk (b : Bool) (o h) : (blkM b o h).view.dmaCredit = (qB false 0).view.dmaCredit := by cases b <;> rfl
theorem amt_row (o h) : (rowM o h).view.dmaCredit = axS.view.dmaCredit := rfl
theorem amt_win (o h) : (winM o h).view.dmaCredit = (winB false 0).view.dmaCredit := rfl

/-! ## What each landing hands over -/

/-- The pieces of the maxima's source row: what `n` sends leave, and what send `n` takes. -/
def left : ℕ → PosShare TreeShare
  | 0 => fullShare
  | n + 1 => (left n).right
def piece (n : ℕ) : PosShare TreeShare := (left n).left

/-- A buffer's part at some contents. -/
def some' {sp : Space} {s : Shape} {e : EltTy} (c : Dev nD) (m : Memref sig .tc sp s e) : sProp 𝕄 :=
  iprop(∃ X : s.Idx → Elt F e, owns (c : Thread nD τ) m fullShare X)

omit [FloatOps F] in
instance some'_storable {sp : Space} {s : Shape} {e : EltTy} (c : Dev nD) (m : Memref sig .tc sp s e) :
    BI.Storable (upEmb : UEmb _ 𝕄) (some' (F := F) c m) := by unfold some'; infer_instance

/-- The rows, in the buffer of the device at place `q`, of the `n` devices from place `k` on. -/
def rows (q k : Fin 8) : ℕ → sProp 𝕄
  | 0 => iprop(emp)
  | n + 1 => iprop(some' (F := F) (dat q) (rowD (dat k)) ∗ rows q (plus k 1) n)
/-- The rows that arrive at place `p` in step `s`, with side A. -/
def rowsIn (b : Bool) (p : Fin 8) (s : ℕ) : sProp 𝕄 :=
  match b with | false => rows (plus p (15 - s)) p (7 - s) | true => iprop(emp)

omit [FloatOps F] in
instance rows_storable (q k : Fin 8) (n : ℕ) : BI.Storable (upEmb : UEmb _ 𝕄) (rows (F := F) q k n) := by
  induction n generalizing k with
  | zero => unfold rows; infer_instance
  | succ n ih => unfold rows; have := ih (plus k 1); infer_instance
omit [FloatOps F] in
instance rowsIn_storable (b : Bool) (p : Fin 8) (s : ℕ) : BI.Storable (upEmb : UEmb _ 𝕄) (rowsIn (F := F) b p s) := by
  unfold rowsIn; cases b <;> infer_instance

variable (xs : Dev nD → (cc0_stg0_0 : Ref sig .tc).ty.Contents (Elt F)) (ws : Dev nD → (cc0_stg1_0 : Ref sig .tc).ty.Contents (Elt F))

/-- The barrier: what device `c` may send into on side `b`. -/
def barPay (b : Bool) (c : Dev nD) : sProp 𝕄 :=
  iprop((bigSep Finset.univ fun s : Fin 7 => some' (F := F) (nb b c) (slotM b s))
    ∗ bigSep Finset.univ fun t : Fin 7 => some' (F := F) (nb b c) (qB b (agI b (pos c) t.val)))
def rsPay (b r : Bool) (s : Fin 7) (c : Dev nD) : sProp 𝕄 :=
  match r with
  | false => owns (c : Thread nD τ) (srcM b s) fullShare (sent xs ws b s.val c)
  | true => iprop(owns (c : Thread nD τ) (slotM b s) fullShare (sent xs ws b s.val (pv b c)) ∗ rowsIn (F := F) b (pos c) s.val)
def agPay (b r : Bool) (t : Fin 7) (c : Dev nD) : sProp 𝕄 :=
  match r with
  | false => owns (c : Thread nD τ) (qB b (agI b (pos c) t.val)) fullShare.left (qv xs ws b (agI b (pos c) t.val))
  | true => owns (c : Thread nD τ) (qB b (agI b (pos c) (t.val + 1))) fullShare (qv xs ws b (agI b (pos c) (t.val + 1)))
def axPay (r : Bool) (s : Fin 7) (c : Dev nD) : sProp 𝕄 :=
  match r with
  | false => owns (c : Thread nD τ) axS (piece s.val) (axRow xs ws c)
  | true => owns (c : Thread nD τ) (rowD (from' s c)) fullShare (axRow xs ws (from' s c))
def dmaPay (k : Fin 10) (s : Fin 7) (c : Dev nD) : sProp 𝕄 :=
  match k with
  | 0 => rsPay xs ws false false s c
  | 1 => rsPay xs ws false true s c
  | 2 => rsPay xs ws true false s c
  | 3 => rsPay xs ws true true s c
  | 4 => agPay xs ws false false s c
  | 5 => agPay xs ws false true s c
  | 6 => agPay xs ws true false s c
  | 7 => agPay xs ws true true s c
  | 8 => axPay xs ws false s c
  | 9 => axPay xs ws true s c
def payOf (sm : SemLoc sig) (d : Bool) (c : Dev nD) : sProp 𝕄 :=
  match sm with
  | .reg _ => barPay (F := F) d c
  | .dma i => match dec i with
    | some (k, s) => dmaPay xs ws k s c
    | none => iprop(emp)

instance payOf_storable (sm : SemLoc sig) (d : Bool) (c : Dev nD) : BI.Storable (upEmb : UEmb _ 𝕄) (payOf xs ws sm d c) := by
  unfold payOf
  split
  · unfold barPay; infer_instance
  · split
    · unfold dmaPay; split <;> (first | unfold rsPay | unfold agPay | unfold axPay) <;> infer_instance
    · infer_instance

def amtOf (sm : SemLoc sig) : ℕ :=
  match sm with
  | .reg _ => 1
  | .dma i => match dec i with | some (k, _) => amt k | none => 1
theorem amtOf_pos (sm : SemLoc sig) : 0 < amtOf sm := by
  unfold amtOf; split
  · exact Nat.one_pos
  · split
    · exact amt_pos _
    · exact Nat.one_pos

def dutiesOf (sm : SemLoc sig) : Finset Bool :=
  match sm with | .reg _ => Finset.univ | .dma _ => {false}

/-- One round, round 0, on every cell of every device. -/
def Rd : Rounds.Schedule (GSem nD τ sig) Bool 𝕄 where
  duties g r := if r = 0 then dutiesOf g.2 else ∅
  unitless _ := False
  amount g _ _ := amtOf g.2
  payload g _ d := payOf xs ws g.2 d g.1.1
  amount_pos g _ _ _ := amtOf_pos g.2

instance Rd_payload_storable (g : GSem nD τ sig) (r : ℕ) (d : Bool) :
    BI.Storable (upEmb : UEmb _ 𝕄) ((Rd (F := F) xs ws).payload g r d) := payOf_storable xs ws _ _ _

theorem duties_bar (c : Dev nD) : (Rd (F := F) xs ws).duties (barCell c) 0 = Finset.univ := rfl
theorem duties_dma (k : Fin 10) (s : Fin 7) (c : Dev nD) : (Rd (F := F) xs ws).duties (dcell k s c) 0 = {false} := rfl
theorem duties_later (g : GSem nD τ sig) : ∀ r, 1 ≤ r → (Rd (F := F) xs ws).duties g r = ∅ :=
  fun r hr => if_neg (by omega)
theorem amount_bar (c : Dev nD) (d : Bool) : (Rd (F := F) xs ws).amount (barCell c) 0 d = 1 := rfl
theorem amount_dma (k : Fin 10) (s : Fin 7) (c : Dev nD) (d : Bool) : (Rd (F := F) xs ws).amount (dcell k s c) 0 d = amt k := by
  show amtOf (.dma (cell k s)) = amt k
  simp only [amtOf, dec_cell]
theorem expect_bar (c : Dev nD) : (Rd (F := F) xs ws).expect (barCell c) 0 = 2 := by
  unfold Schedule.expect Schedule.amountOf
  rw [duties_bar, Finset.sum_congr rfl fun d _ => amount_bar xs ws c d, Finset.sum_const, Finset.card_univ, Fintype.card_bool, smul_eq_mul]
theorem expect_dma (k : Fin 10) (s : Fin 7) (c : Dev nD) : (Rd (F := F) xs ws).expect (dcell k s c) 0 = amt k := by
  unfold Schedule.expect Schedule.amountOf; rw [duties_dma, Finset.sum_singleton, amount_dma]
theorem payload_bar (c : Dev nD) (d : Bool) : (Rd (F := F) xs ws).payload (barCell c) 0 d = barPay (F := F) d c := rfl
theorem payload_dma (k : Fin 10) (s : Fin 7) (c : Dev nD) (d : Bool) :
    (Rd (F := F) xs ws).payload (dcell k s c) 0 d = dmaPay xs ws k s c := by
  show payOf xs ws (.dma (cell k s)) d c = _
  simp only [payOf, dec_cell]
theorem pay_rs (b r : Bool) (s : Fin 7) (c : Dev nD) : dmaPay xs ws (rsK b r) s c = rsPay xs ws b r s c := by cases b <;> cases r <;> rfl
theorem pay_ag (b r : Bool) (s : Fin 7) (c : Dev nD) : dmaPay xs ws (agK b r) s c = agPay xs ws b r s c := by cases b <;> cases r <;> rfl
theorem pay_ax (r : Bool) (s : Fin 7) (c : Dev nD) : dmaPay xs ws (axK r) s c = axPay xs ws r s c := by cases r <;> rfl
theorem rest_bar (c : Dev nD) : bigSep ((Rd (F := F) xs ws).duties (barCell c) 0 \ ∅) (fun d => (Rd (F := F) xs ws).payload (barCell c) 0 d)
    = iprop(barPay (F := F) false c ∗ barPay (F := F) true c) := by
  rw [Finset.sdiff_empty, duties_bar, bigSep_univ_eq_bigSepL [false, true] (by decide) (by decide), bigSepL_cons_cons, bigSepL_singleton]
  rfl
theorem rest_dma (k : Fin 10) (s : Fin 7) (c : Dev nD) :
    bigSep ((Rd (F := F) xs ws).duties (dcell k s c) 0 \ ∅) (fun d => (Rd (F := F) xs ws).payload (dcell k s c) 0 d)
    = dmaPay xs ws k s c := by
  rw [Finset.sdiff_empty, duties_dma, bigSep_singleton, payload_dma]

/-! ## What a device owes, in the order it pays -/

/-- The duties: two on each barrier, one on each of the seventy. -/
abbrev J : Type := Bool ⊕ (Fin 10 × Fin 7)
def ciOf : J → CI | .inl _ => none | .inr ks => some ks
def dutyOf : J → Bool | .inl b => b | .inr _ => false
def unitsOf : J → ℕ | .inl _ => 1 | .inr (k, _) => amt k
/-- Whose cell a device pays duty `j` on. -/
def tgt : J → (Dev nD ≃ Dev nD)
  | .inl b => (ring b).symm
  | .inr (k, s) => match k with
    | 1 => ring false
    | 3 => ring true
    | 5 => ring false
    | 7 => ring true
    | 9 => shift s
    | _ => Equiv.refl _
def lvJ : J → ℕ
  | .inl _ => 1
  | .inr (k, s) => match k with
    | 1 => 2 + s.val
    | 3 => 2 + s.val
    | 9 => 9
    | 5 => 10 + s.val
    | 7 => 10 + s.val
    | _ => 0

def pays : List J :=
  [.inl false, .inl true,
   .inr (1, 0), .inr (3, 0), .inr (1, 1), .inr (3, 1), .inr (1, 2), .inr (3, 2), .inr (1, 3), .inr (3, 3),
   .inr (1, 4), .inr (3, 4), .inr (1, 5), .inr (3, 5), .inr (1, 6), .inr (3, 6),
   .inr (9, 0), .inr (9, 1), .inr (9, 2), .inr (9, 3), .inr (9, 4), .inr (9, 5), .inr (9, 6),
   .inr (5, 0), .inr (7, 0), .inr (5, 1), .inr (7, 1), .inr (5, 2), .inr (7, 2), .inr (5, 3), .inr (7, 3),
   .inr (5, 4), .inr (7, 4), .inr (5, 5), .inr (7, 5), .inr (5, 6), .inr (7, 6)]

/-- What device `c` owes over a list of duties; what it owes after its first `n` payments. -/
def oweL (c : Dev nD) : List J → CellTallies nD τ sig Unit
  | [] => 0
  | j :: l => oweL c l + tallyAt (cellOn (tgt j c) (ciOf j)) () (unitsOf j)
def O (c : Dev nD) (n : ℕ) : CellTallies nD τ sig Unit := oweL c (pays.drop n)

theorem O_step (c : Dev nD) (n : ℕ) (j : J) (h : pays[n]? = some j) :
    O c n = O c (n + 1) + tallyAt (cellOn (tgt j c) (ciOf j)) () (unitsOf j) := by
  obtain ⟨hn, rfl⟩ := List.getElem?_eq_some_iff.mp h
  unfold O; rw [List.drop_eq_getElem_cons hn]; rfl
theorem O_end (c : Dev nD) : O c 37 = 0 := rfl

theorem oweL_apply (c : Dev nD) (l : List J) (g : GSem nD τ sig) :
    oweL c l g () = (l.map fun j => if g = cellOn (tgt j c) (ciOf j) then unitsOf j else 0).sum := by
  induction l with
  | nil => rfl
  | cons j l ih =>
    rw [List.map_cons, List.sum_cons, ← ih, Nat.add_comm,
      show oweL c (j :: l) = oweL c l + tallyAt (cellOn (tgt j c) (ciOf j)) () (unitsOf j) from rfl, Pi.add_apply, Finsupp.add_apply, tallyAt_apply]
    simp only [and_true]

theorem oweL_pos {c : Dev nD} {l : List J} {g : GSem nD τ sig} {u : Unit} (h : 0 < oweL c l g u) :
    ∃ j ∈ l, g = cellOn (tgt j c) (ciOf j) := by
  induction l with
  | nil => exact absurd h (Nat.lt_irrefl 0)
  | cons j l ih =>
    by_cases hg : g = cellOn (tgt j c) (ciOf j)
    · exact ⟨j, List.mem_cons_self, hg⟩
    · unfold oweL at h
      rw [Pi.add_apply, Finsupp.add_apply, tallyAt_apply, if_neg (fun h' => hg h'.1), Nat.add_zero] at h
      obtain ⟨j', hj, e⟩ := ih h
      exact ⟨j', List.mem_cons_of_mem _ hj, e⟩

/-! ## Levels -/

def L (g : GSem nD τ sig) : Finset Unit := if g.1.2 = .tc then {()} else ∅
def lvOf (sm : SemLoc sig) : ℕ :=
  match sm with
  | .reg _ => 1
  | .dma i => match dec i with | some ks => lvJ (.inr ks) | none => 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_ci (c : Dev nD) (j : J) : lv (cellOn c (ciOf j)) () = lvJ j := by
  rcases j with b | ⟨k, s⟩
  · rfl
  · show lvOf (.dma (cell k s)) = _
    simp only [lvOf, dec_cell]

omit [FloatOps F] in
/-- A wait on a cell below everything still owed. -/
theorem mayWait (c : Dev nD) (sm : SemLoc sig) (n : ℕ) (h : ∀ j ∈ pays.drop n, lvOf sm < lvJ j) :
    (levAts L lv : sProp 𝕄) ⊢ MayWait (c : Thread nD τ) sm () (O c n) :=
  MayOwe.of_cut (L := L) (lev := lv) (lvOf sm) (fun p hp => by rw [Finset.mem_singleton.mp hp, L_tc]; exact Finset.mem_singleton_self _)
    (fun g u hg => by obtain ⟨j, -, rfl⟩ := oweL_pos hg; rw [L_tc]; exact Finset.mem_singleton_self _)
    (fun p hp => by rw [Finset.mem_singleton.mp hp]; exact le_refl _)
    (fun g u hg => by obtain ⟨j, hj, rfl⟩ := oweL_pos hg; rw [lv_ci]; exact h j hj)

end Cert.KernelIdeal.Ring

end
-- ==== Proof.Rules.lean ====
/- One rule per kind of step, over parts of buffers owned at named contents: loads and stores through a buffer at a
   slice of it, the remote send, the wait that closes its cell, the local copy and its wait. -/
module

public import proofs.«01_k».proof.Proof.Schedule
public import Idealize.ShloMosaic.Lib.VecWindow

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

abbrev 𝒱₀ : Variants := Variants.none

/-- A program's weakest precondition on device `c`. -/
abbrev W (c : Dev nD) (Q : PUnit → sProp 𝕄) (p : Pg F) : sProp 𝕄 :=
  wp frame (wpE (defs₀ (F := F)) 𝒱₀ (c : Thread nD τ) none) Set.univ p Q

variable (c : Dev nD) {Q : PUnit.{1} → sProp (MT nD τ sig Unit (Elt F) ℕ UU ℕ)}

/-! ## Loads and stores -/

section Mem
variable {s s' : Shape} {e : EltTy}

/-- A load at a rectangle of a buffer owned whole. -/
theorem load_part (m : Memref sig .tc .vmem s e) (q : PosShare TreeShare) (X : s.Idx → Elt F e) (r : Rect s)
    {hl : m.view.LoadsAt r.toLoadRect} {k : (r.shape.Idx → Elt F e) → Pg F} :
    (owns (c : Thread nD τ) m q X : sProp 𝕄)
      ⊢ iprop((owns (c : Thread nD τ) m q X -∗ W c Q (k (fun j => X (r.emb j)))) -∗ W c Q (.op (.load m r.toLoadRect hl) k)) := by
  unfold owns
  iintro ⟨%f, %hf, H⟩ Hk
  subst hf
  iapply (wp_load_rect 𝒱₀ (c : Thread nD τ) none Set.univ (m := m) (r := r) (S := m.view.set) (View.set_slice_subset _ _)) $$ H
  iintro H
  iapply Hk
  iexists f; isplitr; · ipureintro; rfl
  iexact H

/-- A load of a whole buffer. -/
theorem load_all (m : Memref sig .tc .vmem s e) (q : PosShare TreeShare) (X : s.Idx → Elt F e) {off : Fin s.rank → ℕ}
    (h0 : off = fun _ => 0) (inb : ∀ a, off a + s.size a ≤ s.size a)
    {hl : m.view.LoadsAt (Rect.unit off s.size inb).toLoadRect} {k : (s.Idx → Elt F e) → Pg F} :
    (owns (c : Thread nD τ) m q X : sProp 𝕄)
      ⊢ iprop((owns (c : Thread nD τ) m q X -∗ W c Q (k X)) -∗ W c Q (.op (.load m (Rect.unit off s.size inb).toLoadRect hl) k)) := by
  have e : (fun j => X ((Rect.unit off s.size inb).emb j)) = X := by
    subst h0; funext j; exact congrArg X (by ext a; simp)
  have := load_part c (Q := Q) m q X (Rect.unit off s.size inb) (hl := hl) (k := k)
  rw [e] at this
  exact this

/-- A store over a whole buffer. -/
theorem store_all (m : Memref sig .tc .vmem s e) (X : s.Idx → Elt F e) {off : Fin s.rank → ℕ}
    (h0 : off = fun _ => 0) (inb : ∀ a, off a + s.size a ≤ s.size a) {w : s.Idx → Elt F e}
    {hx : (m.access (Rect.unit off s.size inb)).Stores Finset.univ} {hm} {k : PUnit → Pg F} :
    (owns (c : Thread nD τ) m fullShare X : sProp 𝕄)
      ⊢ iprop((owns (c : Thread nD τ) m fullShare w -∗ W c Q (k ⟨⟩))
        -∗ W c Q (.op (.store m (Rect.unit off s.size inb) w Finset.univ hx hm) k)) := by
  unfold owns
  iintro ⟨%f, %hf, H⟩ Hk
  iapply (wp_store 𝒱₀ (c : Thread nD τ) none Set.univ (m := m) (r := Rect.unit off s.size inb) (Mk := Finset.univ) (S := m.view.set)
    (View.set_slice_subset _ _)) $$ H
  iintro H
  iapply Hk
  iexists _; isplitr [H]
  rotate_left
  · iexact H
  · ipureintro
    subst h0
    funext j
    have := View.read_slice_write_emb (v := m.view) (Val := Elt F) (Rect.unit (fun _ => 0) s.size inb) f w (M := Finset.univ) (Finset.mem_univ j)
    rw [show (Rect.unit (fun _ => 0) s.size inb).emb j = j from by ext a; simp] at this
    exact this

variable (m : Memref sig .tc .vmem s e) (r : Rect s) (hr : ∀ a, r.stride a = 1)

/-- A load at a rectangle the device owns as a squeezed slice. -/
theorem load_slot (hq : r.shape.Squeezes s') (q : PosShare TreeShare) (X : s'.Idx → Elt F e) (hc : s'.ShapeCasts r.shape)
    {hl : m.view.LoadsAt r.toLoadRect} {k : (r.shape.Idx → Elt F e) → Pg F} :
    (owns (c : Thread nD τ) ((m.slice r hr).squeeze s' hq) q X : sProp 𝕄)
      ⊢ iprop((owns (c : Thread nD τ) ((m.slice r hr).squeeze s' hq) q X -∗ W c Q (k (shapeCast r.shape X hc)))
        -∗ W c Q (.op (.load m r.toLoadRect hl) k)) := by
  unfold owns
  iintro ⟨%f, %hf, H⟩ Hk
  iapply (wp_load_rect 𝒱₀ (c : Thread nD τ) none Set.univ (m := m) (r := r) (f := f)
    (S := ((m.slice r hr).squeeze s' hq).view.set) (by
      rw [show ((m.slice r hr).squeeze s' hq).view.set = (m.access r).set from View.set_reshape _ _])) $$ H
  iintro H
  rw [show shapeCast r.shape X hc = (m.access r).read (Elt F) f from by
    rw [← hf, Memref.read_squeeze_slice m r hr hq hc.symm f]
    exact shapeCast_shapeCast _ _ _]
  iapply Hk
  iexists f; isplitr; · ipureintro; exact hf
  iexact H

/-- A store at a rectangle the device owns as a squeezed slice. -/
theorem store_slot (hq : r.shape.Squeezes s') (X : s'.Idx → Elt F e) (hc : r.shape.ShapeCasts s') {w : r.shape.Idx → Elt F e}
    {hx : (m.access r).Stores Finset.univ} {hm} {k : PUnit → Pg F} :
    (owns (c : Thread nD τ) ((m.slice r hr).squeeze s' hq) fullShare X : sProp 𝕄)
      ⊢ iprop((owns (c : Thread nD τ) ((m.slice r hr).squeeze s' hq) fullShare (shapeCast s' w hc) -∗ W c Q (k ⟨⟩))
        -∗ W c Q (.op (.store m r w Finset.univ hx hm) k)) := by
  unfold owns
  iintro ⟨%f, %hf, H⟩ Hk
  iapply (wp_store 𝒱₀ (c : Thread nD τ) none Set.univ (m := m) (r := r) (Mk := Finset.univ) (f := f)
    (S := ((m.slice r hr).squeeze s' hq).view.set) (by
      rw [show ((m.slice r hr).squeeze s' hq).view.set = (m.access r).set from View.set_reshape _ _]; exact subset_rfl)) $$ H
  iintro H
  iapply Hk
  iexists _; isplitr [H]
  rotate_left
  · iexact H
  · ipureintro
    rw [Memref.read_squeeze_slice m r hr hq hc _]
    exact congrArg (fun x => shapeCast s' x hc) (View.read_write_univ (v := m.access r) f w)

/-- A load and a store at a rectangle the device owns as a slice. -/
theorem load_slice (q : PosShare TreeShare) (X : r.shape.Idx → Elt F e)
    {hl : m.view.LoadsAt r.toLoadRect} {k : (r.shape.Idx → Elt F e) → Pg F} :
    (owns (c : Thread nD τ) (m.slice r hr) q X : sProp 𝕄)
      ⊢ iprop((owns (c : Thread nD τ) (m.slice r hr) q X -∗ W c Q (k X)) -∗ W c Q (.op (.load m r.toLoadRect hl) k)) := by
  unfold owns
  iintro ⟨%f, %hf, H⟩ Hk
  iapply (wp_load_rect 𝒱₀ (c : Thread nD τ) none Set.univ (m := m) (r := r) (f := f)
    (S := (m.slice r hr).view.set) subset_rfl) $$ H
  iintro H
  subst hf
  iapply Hk
  iexists f; isplitr; · ipureintro; rfl
  iexact H
theorem store_slice (X : r.shape.Idx → Elt F e) {w : r.shape.Idx → Elt F e}
    {hx : (m.access r).Stores Finset.univ} {hm} {k : PUnit → Pg F} :
    (owns (c : Thread nD τ) (m.slice r hr) fullShare X : sProp 𝕄)
      ⊢ iprop((owns (c : Thread nD τ) (m.slice r hr) fullShare w -∗ W c Q (k ⟨⟩))
        -∗ W c Q (.op (.store m r w Finset.univ hx hm) k)) := by
  unfold owns
  iintro ⟨%f, %hf, H⟩ Hk
  iapply (wp_store 𝒱₀ (c : Thread nD τ) none Set.univ (m := m) (r := r) (Mk := Finset.univ) (f := f)
    (S := (m.slice r hr).view.set) subset_rfl) $$ H
  iintro H
  iapply Hk
  iexists _; isplitr [H]
  rotate_left
  · iexact H
  · ipureintro
    exact View.read_write_univ (v := m.access r) f w

end Mem

/-! ## Sends and waits between devices -/

variable (xs : Dev nD → (cc0_stg0_0 : Ref sig .tc).ty.Contents (Elt F)) (ws : Dev nD → (cc0_stg1_0 : Ref sig .tc).ty.Contents (Elt F))

/-- Every cell's invariant, and that every cell is in its round: known to all. -/
def Rec : sProp 𝕄 :=
  iprop(∃ K : Dev nD × CI → ℕ, (bigSep Finset.univ fun ck : Dev nD × CI => cellInv ER (Rd xs ws) (K ck) (cellOn ck.1 ck.2))
    ∗ bigSep Finset.univ fun ck : Dev nD × CI => reached ER (cellOn ck.1 ck.2) 0)
instance Rec_persistent : BI.Persistent (Rec xs ws) := by unfold Rec; infer_instance

theorem inv_at (K : Dev nD × CI → ℕ) (ck : Dev nD × CI) :
    (bigSep Finset.univ fun ck : Dev nD × CI => (cellInv ER (Rd xs ws) (K ck) (cellOn ck.1 ck.2) : sProp 𝕄)) ⊢ cellInv ER (Rd xs ws) (K ck) (cellOn ck.1 ck.2) :=
  bigSep_elim (Finset.mem_univ ck)
omit [FloatOps F] in
theorem reached_at (ck : Dev nD × CI) :
    (bigSep Finset.univ fun ck : Dev nD × CI => (reached ER (cellOn ck.1 ck.2) 0 : sProp 𝕄)) ⊢ reached ER (cellOn ck.1 ck.2) 0 :=
  bigSep_elim (Finset.mem_univ ck)

/-- What is known of one cell. -/
theorem Rec_at (d : Dev nD) (i : CI) : Rec xs ws ⊢ iprop(∃ κ : ℕ, cellInv ER (Rd xs ws) κ (cellOn d i) ∗ reached ER (cellOn d i) 0) := by
  unfold Rec
  iintro ⟨%K, #HI, #HR⟩
  iexists K (d, i)
  isplitr
  · iapply (inv_at xs ws K (d, i)); iexact HI
  · iapply (reached_at (F := F) (d, i)); iexact HR

/-- What device `c` still owes, whatever it has waited for. -/
def Ow (O : CellTallies nD τ sig Unit) : sProp 𝕄 := iprop(∃ Wt : Waits sig Unit, owes (c : Thread nD τ) O Wt)

/-- A send whose payments are the next thing owed: the source's part goes to the send cell's payload, the destination
    rewritten, with `Fr`, to the receiver's. -/
theorem send_wp {s : Shape} {e : EltTy} {src dst : Memref sig .tc .vmem s e} {hs : src.view.WordExact} {hd : dst.view.WordExact}
    (n : ℕ) (ks kr : Fin 10) (sl : Fin 7) {dev : Dev nD} (hpay : pays[n]? = some (.inr (kr, sl))) (hdev : dev = tgt (.inr (kr, sl)) c)
    (hN : dst.view.dmaCredit = amt kr) (hN' : amt ks = amt kr)
    {q : PosShare TreeShare} {X Y : s.Idx → Elt F e} {Fr : sProp 𝕄} {k : Pg F}
    (h1 : (owns (c : Thread nD τ) src q X : sProp 𝕄) ⊢ dmaPay xs ws ks sl c)
    (h2 : iprop(owns (dev : Thread nD τ) dst fullShare X ∗ Fr) ⊢ dmaPay xs ws kr sl dev) :
    iprop(Rec xs ws ∗ owns (c : Thread nD τ) src q X ∗ owns (dev : Thread nD τ) dst fullShare Y ∗ Fr ∗ Ow (F := F) c (O c n)
        ∗ dutyTok ER (dcell ks sl c) 0 false ∗ dutyTok ER (dcell kr sl (tgt (.inr (kr, sl)) c)) 0 false)
      ⊢ iprop(((cred (tallyAt (dcell ks sl c) () (amt ks)) ∗ Ow (F := F) c (O c (n + 1))) -∗ W c Q k)
        -∗ W c Q (sendStep dev src dst hs hd (cell ks sl) (cell kr sl) k)) := by
  rw [← hdev]
  unfold Ow sendStep
  iintro ⟨#HR, Hs, Hd, HF, ⟨%Wt, HO⟩, Ht1, Ht2⟩ Hk
  ihave #H1 := (Rec_at xs ws c (some (ks, sl))) $$ HR
  ihave #H2 := (Rec_at xs ws dev (some (kr, sl))) $$ HR
  icases H1 with ⟨%κ1, HI1, HR1⟩
  icases H2 with ⟨%κ2, HI2, HR2⟩
  unfold owns
  icases Hs with ⟨%fs, %hfs, Hs⟩
  icases Hd with ⟨%fd, %hfd, Hd⟩
  rw [hN']
  iapply (Rounds.wp_send_pointsTo_with 𝒱₀ ER (Rd xs ws) (c : Thread nD τ) none (κ₁ := κ1) (κ₂ := κ2) (c' := (dev : Thread nD τ))
    (src := src) (dst := dst) (r₁ := 0) (r₂ := 0) (d₁ := false) (d₂ := false) (fs := fs) (fd := fd) (F := Fr) (q := q)
    (sS := .dma (cell ks sl)) (sem := .dma (cell kr sl))
    (Finset.mem_singleton_self _) (Finset.mem_singleton_self _) () () (amt kr) hN
    ((amount_dma xs ws ks sl c false).trans hN') (amount_dma xs ws kr sl dev false) (O c (n + 1))
    ((O_step c n _ hpay).trans (by rw [hdev]; rfl))
    (by
      rw [payload_dma]
      rw [← hfs] at h1
      exact (owns_intro (c : Thread nD τ) src q fs).trans h1)
    (by
      rw [payload_dma]
      refine (sep_mono_left ((owns_intro (dev : Thread nD τ) dst fullShare _).trans (Entails.of_eq ?_))).trans h2
      rw [View.read_write_univ, hfs])) $$ [Hs Hd HF HO Ht1 Ht2]
  · isplitr; · iexact HI1
    isplitr; · iexact HI2
    isplitl [Hs]; · iexact Hs
    isplitl [Hd HF]
    · isplitl [Hd]; · iexact Hd
      iexact HF
    isplitl [HO]; · iexact HO
    isplitl [Ht1]; · iexact Ht1
    isplitr; · iexact HR1
    isplitl [Ht2]; · iexact Ht2
    iexact HR2
  iintro ⟨Hc, HO⟩
  iapply Hk
  isplitl [Hc]; · iexact Hc
  iexists Wt; iexact HO

/-- A wait for one transfer's units on a cell of the seventy: what landed, and the cell closed at zero. -/
theorem wait_wp {s : Shape} {e : EltTy} {sp sp' : Space} {src : Memref sig .tc sp s e} {dst : Memref sig .tc sp' s e}
    {hs : src.view.WordExact} {hd : dst.view.WordExact} (n : ℕ) (kk : Fin 10) (sl : Fin 7)
    (hN : dst.view.dmaCredit = amt kk) (hlv : ∀ j ∈ pays.drop n, lvJ (.inr (kk, sl)) < lvJ j) {k : Pg F} :
    iprop(Rec xs ws ∗ levAts L lv ∗ cred (tallyAt (dcell kk sl c) () (amt kk)) ∗ Ow (F := F) c (O c n) ∗ atPos ER (dcell kk sl c) 0 ∅ 0)
      ⊢ iprop(((Ow (F := F) c (O c n) ∗ dmaPay xs ws kk sl c ∗ semVal (dcell kk sl c) 0) -∗ W c Q k)
        -∗ W c Q (waitStep (cell kk sl) src dst hs hd k)) := by
  unfold Ow waitStep
  iintro ⟨#HR, #Hlev, Hc, ⟨%Wt, HO⟩, Hat⟩ Hk
  ihave #H1 := (Rec_at xs ws c (some (kk, sl))) $$ HR
  icases H1 with ⟨%κ1, HI1, HR1⟩
  iapply (Rounds.wp_wait_rest_token 𝒱₀ ER (Rd xs ws) (c : Thread nD τ) none (κ := κ1)
      (wpE_waitDma2_eq 𝒱₀ (c : Thread nD τ) none Set.univ) (Set.mem_univ _) () (O := O c n) (W := Wt) (R := 0) (m := 0) (T := ∅)
      (by rw [Nat.zero_add, hN]; exact (expect_dma xs ws kk sl c).symm)) $$ [Hc HO Hat]
  · isplitr; · iexact HI1
    isplitl [Hc]; · rw [hN]; iexact Hc
    isplitl [HO]; · iexact HO
    isplitr
    · iapply (mayWait (F := F) c (.dma (cell kk sl)) n (fun j hj => by
        have := hlv j hj
        rwa [← lv_ci c (.inr (kk, sl))] at this)); iexact Hlev
    iexact Hat
  iintro ⟨HO, Hat, -, Hp⟩
  ihave Hp := (Entails.of_eq (rest_dma xs ws kk sl c)) $$ Hp
  imod (Rounds.cell_close ER (Rd xs ws) (Set.mem_univ κ1) (fun h => h) (R := 0 + 1) (duties_later xs ws (dcell kk sl c))) $$ [Hat] with Hz
  · isplitr; · iexact HI1
    iexact Hat
  iapply Hk
  isplitl [HO]; · iexists _; iexact HO
  isplitl [Hp] <;> iassumption

/-! ## Copies to the output -/

/-- The slot a copy is staged in. -/
abbrev stg (u : Fin 3) : Fin 7 := Fin.castLE (by decide : 3 ≤ 7) u
abbrev EC : UEmb Counters (MT nD τ sig Unit (Elt F) ℕ UU ℕ) := countersEmb
abbrev stG (b : Bool) (u : Fin 3) : GSem nD τ sig := ((c : Thread nD τ), .dma (stCell b u))

/-- A copy to the output under way: once waited for, slot and window hold `X`. -/
def Fly (b : Bool) (u : Fin 3) (o : Fin 2 → ℕ) (h : ∀ a, o a + S512x1024.size a ≤ S4096x2048.size a) (X : S512x1024.Idx → Elt F .f32) : sProp 𝕄 :=
  Flight EC (c : Thread nD τ) (.dma (stCell b u)) () (winB false 0).view.dmaCredit
    iprop(owns (c : Thread nD τ) (winM o h) fullShare X ∗ owns (c : Thread nD τ) (slotM b (stg u)) fullShare X)

theorem copy_wp (b : Bool) (u : Fin 3) (o : Fin 2 → ℕ) (h : ∀ a, o a + S512x1024.size a ≤ S4096x2048.size a)
    (X Y : S512x1024.Idx → Elt F .f32) {k : Pg F} :
    iprop(owns (c : Thread nD τ) (slotM b (stg u)) fullShare X ∗ owns (c : Thread nD τ) (winM o h) fullShare Y ∗ semVal (stG c b u) 0)
      ⊢ iprop((Fly (F := F) c b u o h X -∗ W c Q k) -∗ W c Q (copyStep b u o h k)) := by
  unfold copyStep Fly
  iintro ⟨Hs, Hd, Hv⟩ Hk
  ihave Hs := (show owns (c : Thread nD τ) (slotM b (stg u)) fullShare X ⊢ (iprop(∃ f, ⌜_⌝ ∗ _) : sProp 𝕄) from .rfl) $$ Hs
  ihave Hd := (show owns (c : Thread nD τ) (winM o h) fullShare Y ⊢ (iprop(∃ f, ⌜_⌝ ∗ _) : sProp 𝕄) from .rfl) $$ Hd
  icases Hs with ⟨%fs, %hfs, Hs⟩
  icases Hd with ⟨%fd, %hfd, Hd⟩
  iapply (wp_dmaLocal EC 𝒱₀ (c : Thread nD τ) none () (winB false 0).view.dmaCredit (dst := winM o h) (by exact amt_win o h)
    (View.dmaCredit_pos _ (by decide)) (fs := fs) (fd := fd) (Sd := (winM o h).view.set) subset_rfl) $$ [Hs Hd Hv]
  · isplitl [Hs]; · iexact Hs
    isplitl [Hd]; · iexact Hd
    iexact Hv
  iintro HF
  iapply Hk
  iapply (Flight_mono EC (c : Thread nD τ) (BIClass.sep_mono ((owns_intro (c : Thread nD τ) (winM o h) fullShare _).trans (Entails.of_eq (by
      rw [View.read_write_univ, hfs]))) ((owns_intro (c : Thread nD τ) (slotM b (stg u)) fullShare fs).trans (Entails.of_eq (by rw [hfs]))))) $$ HF

/-- The wait for such a copy, owing what is above. -/
theorem stWait_wp (b : Bool) (u : Fin 3) (n : ℕ) (hlv : ∀ j ∈ pays.drop n, 0 < lvJ j) (o : Fin 2 → ℕ)
    (h : ∀ a, o a + S512x1024.size a ≤ S4096x2048.size a) (X : S512x1024.Idx → Elt F .f32) {k : Pg F} :
    iprop(levAts L lv ∗ Fly (F := F) c b u o h X ∗ Ow (F := F) c (O c n))
      ⊢ iprop(((Ow (F := F) c (O c n) ∗ owns (c : Thread nD τ) (winM o h) fullShare X
          ∗ owns (c : Thread nD τ) (slotM b (stg u)) fullShare X ∗ semVal (stG c b u) 0) -∗ W c Q k)
        -∗ W c Q (stWait b u k)) := by
  have hz : lvOf (.dma (stCell b u)) = 0 := by revert b u; decide +kernel
  unfold Ow Fly
  iintro ⟨#Hlev, HF, ⟨%Wt, HO⟩⟩ Hk
  cases b
  all_goals
    unfold stWait waitStep
    iapply (wp_waitLocalO EC 𝒱₀ (c : Thread nD τ) none () (amt_win _ _) (O := O c n) (W := Wt)) $$ [HF HO]
    · isplitl [HF]; · iexact HF
      isplitl [HO]; · iexact HO
      iapply (mayWait (F := F) c _ n (fun j hj => by rw [hz]; exact hlv j hj)); iexact Hlev
    iintro ⟨⟨HW, HS⟩, Hv, HO⟩
    iapply Hk
    isplitl [HO]; · iexists _; iexact HO
    isplitl [HW]; · iexact HW
    isplitl [HS] <;> iassumption

end Cert.KernelIdeal.Ring

end
-- ==== Proof.Walk.lean ====
/- The steps of the body on one device, each from what it needs to what it leaves: the barrier, one chunk of the
   product, one step of the reduce-scatter, the maxima, the quantiser, one step of the all-gather. -/
module

public import proofs.«01_k».proof.Proof.Rules

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (c : Dev nD) {Q : PUnit.{1} → sProp (MT nD τ sig Unit (Elt F) ℕ UU ℕ)}
variable (xs : Dev nD → (cc0_stg0_0 : Ref sig .tc).ty.Contents (Elt F)) (ws : Dev nD → (cc0_stg1_0 : Ref sig .tc).ty.Contents (Elt F))

theorem off00 : (![0, 0] : Fin 2 → ℕ) = fun _ => 0 := by funext a; fin_cases a <;> rfl

/-! ## Tickets -/

/-- A transfer's two ends on device `c`, nothing of it done yet: where it stands on its own send and receive cell, the
    two duties it pays, the units it will be sent. -/
def Ends (ks kr : Fin 10) (s : Fin 7) (c : Dev nD) : sProp 𝕄 :=
  iprop((atPos ER (dcell ks s c) 0 ∅ 0 ∗ atPos ER (dcell kr s c) 0 ∅ 0)
    ∗ (dutyTok ER (dcell ks s c) 0 false ∗ dutyTok ER (dcell kr s (tgt (.inr (kr, s)) c)) 0 false)
    ∗ cred (tallyAt (dcell kr s c) () (amt kr)))
/-- The same once sent, and once both waits are through. -/
def Sent (ks kr : Fin 10) (s : Fin 7) (c : Dev nD) : sProp 𝕄 :=
  iprop((atPos ER (dcell ks s c) 0 ∅ 0 ∗ atPos ER (dcell kr s c) 0 ∅ 0)
    ∗ cred (tallyAt (dcell ks s c) () (amt ks)) ∗ cred (tallyAt (dcell kr s c) () (amt kr)))
def Shut (ks kr : Fin 10) (s : Fin 7) (c : Dev nD) : sProp 𝕄 :=
  iprop(semVal (dcell ks s c) 0 ∗ semVal (dcell kr s c) 0)

/-- A send, by its tickets. -/
theorem sendT_wp {s : Shape} {e : EltTy} {src dst : Memref sig .tc .vmem s e} {hs : src.view.WordExact} {hd : dst.view.WordExact}
    (n : ℕ) (ks kr : Fin 10) (sl : Fin 7) {dev : Dev nD} (hpay : pays[n]? = some (.inr (kr, sl))) (hdev : dev = tgt (.inr (kr, sl)) c)
    (hN : dst.view.dmaCredit = amt kr) (hN' : amt ks = amt kr)
    {q : PosShare TreeShare} {X : s.Idx → Elt F e} {Fr : sProp 𝕄} {k : Pg F}
    (h1 : (owns (c : Thread nD τ) src q X : sProp 𝕄) ⊢ dmaPay xs ws ks sl c)
    (h2 : iprop(owns (dev : Thread nD τ) dst fullShare X ∗ Fr) ⊢ dmaPay xs ws kr sl dev) :
    iprop(Rec xs ws ∗ owns (c : Thread nD τ) src q X ∗ some' (F := F) dev dst ∗ Fr ∗ Ow (F := F) c (O c n) ∗ Ends ks kr sl c)
      ⊢ iprop(((Sent ks kr sl c ∗ Ow (F := F) c (O c (n + 1))) -∗ W c Q k)
        -∗ W c Q (sendStep dev src dst hs hd (cell ks sl) (cell kr sl) k)) := by
  unfold some' Ends Sent
  iintro ⟨#HR, Hs, ⟨%Y, Hd⟩, HF, HO, HA, ⟨Ht1, Ht2⟩, Hc⟩ Hk
  iapply (send_wp c xs ws n ks kr sl hpay hdev hN hN' (Y := Y) h1 h2) $$ [Hs Hd HF HO Ht1 Ht2]
  · isplitr; · iexact HR
    isplitl [Hs]; · iexact Hs
    isplitl [Hd]; · iexact Hd
    isplitl [HF]; · iexact HF
    isplitl [HO]; · iexact HO
    isplitl [Ht1] <;> iassumption
  iintro ⟨Hcs, HO⟩
  iapply Hk
  isplitr [HO]
  · isplitl [HA]; · iexact HA
    isplitl [Hcs] <;> iassumption
  · iexact HO

/-- Its two waits. -/
theorem waitT_wp {s1 s2 : Shape} {e1 e2 : EltTy} {p1 p2 p3 p4 : Space}
    {a1 : Memref sig .tc p1 s1 e1} {b1 : Memref sig .tc p2 s1 e1} {a2 : Memref sig .tc p3 s2 e2} {b2 : Memref sig .tc p4 s2 e2}
    {ha1 : a1.view.WordExact} {hb1 : b1.view.WordExact} {ha2 : a2.view.WordExact} {hb2 : b2.view.WordExact}
    (n : ℕ) (ks kr : Fin 10) (sl : Fin 7) (h1 : b1.view.dmaCredit = amt ks) (h2 : b2.view.dmaCredit = amt kr)
    (hl1 : ∀ j ∈ pays.drop n, lvJ (.inr (ks, sl)) < lvJ j) (hl2 : ∀ j ∈ pays.drop n, lvJ (.inr (kr, sl)) < lvJ j) {k : Pg F} :
    iprop(Rec xs ws ∗ levAts L lv ∗ Sent ks kr sl c ∗ Ow (F := F) c (O c n))
      ⊢ iprop(((Ow (F := F) c (O c n) ∗ dmaPay xs ws ks sl c ∗ dmaPay xs ws kr sl c ∗ Shut (F := F) ks kr sl c) -∗ W c Q k)
        -∗ W c Q (waitStep (cell ks sl) a1 b1 ha1 hb1 (waitStep (cell kr sl) a2 b2 ha2 hb2 k))) := by
  unfold Sent Shut
  iintro ⟨#HR, #Hl, ⟨⟨HA1, HA2⟩, HC1, HC2⟩, HO⟩ Hk
  iapply (wait_wp c xs ws n ks sl h1 hl1) $$ [HC1 HO HA1]
  · isplitr; · iexact HR
    isplitr; · iexact Hl
    isplitl [HC1]; · iexact HC1
    isplitl [HO] <;> iassumption
  iintro ⟨HO, HP1, HZ1⟩
  iapply (wait_wp c xs ws n kr sl h2 hl2) $$ [HC2 HO HA2]
  · isplitr; · iexact HR
    isplitr; · iexact Hl
    isplitl [HC2]; · iexact HC2
    isplitl [HO] <;> iassumption
  iintro ⟨HO, HP2, HZ2⟩
  iapply Hk
  isplitl [HO]; · iexact HO
  isplitl [HP1]; · iexact HP1
  isplitl [HP2]; · iexact HP2
  isplitl [HZ1] <;> iassumption

/-! ## The barrier -/

omit [FloatOps F] in
/-- What a device hands its neighbour: its own slots and blocks of one side. -/
theorem barPay_pv (b : Bool) : iprop((bigSep Finset.univ fun s : Fin 7 => some' (F := F) c (slotM b s))
      ∗ bigSep Finset.univ fun t : Fin 7 => some' (F := F) c (qB b (agI b (pos c) (t.val + 1))))
    ⊢ barPay (F := F) b (pv b c) := by
  unfold barPay
  rw [nb_pv]
  simp only [agI_pv]
  exact .rfl

theorem barrier_wp {k : Pg F} :
    iprop(Rec xs ws ∗ levAts L lv ∗ barPay (F := F) false (pv false c) ∗ barPay (F := F) true (pv true c)
        ∗ dutyTok ER (barCell (pv false c)) 0 false ∗ dutyTok ER (barCell (pv true c)) 0 true
        ∗ cred (tallyAt (barCell c) () 2) ∗ atPos ER (barCell c) 0 ∅ 0 ∗ Ow (F := F) c (O c 0))
      ⊢ iprop(((Ow (F := F) c (O c 2) ∗ barPay (F := F) false c ∗ barPay (F := F) true c ∗ semVal (barCell c) 0) -∗ W c Q k)
        -∗ W c Q (barrierStep ⟨k0_dev1 c, k0_dev1_lt c⟩ ⟨k0_dev2 c, k0_dev2_lt c⟩ k)) := by
  rw [dev1_eq, dev2_eq, show nb true c = pv false c from (pv_not true c).symm, show nb false c = pv true c from (pv_not false c).symm]
  unfold barrierStep Ow
  iintro ⟨#HR, #Hlev, HPf, HPt, Htf, Htt, Hc, Hat, ⟨%Wt, HO⟩⟩ Hk
  ihave #H1 := (Rec_at xs ws (pv false c) none) $$ HR
  ihave #H2 := (Rec_at xs ws (pv true c) none) $$ HR
  ihave #H3 := (Rec_at xs ws c none) $$ HR
  icases H1 with ⟨%κ1, HI1, HR1⟩
  icases H2 with ⟨%κ2, HI2, HR2⟩
  icases H3 with ⟨%κ3, HI3, HR3⟩
  iapply (Rounds.wp_signal 𝒱₀ ER (Rd xs ws) (c : Thread nD τ) none (dst := (pv false c : Thread nD τ)) (κ := κ1)
      (d := false) (by rw [duties_bar]; exact Finset.mem_univ _) ((amount_bar xs ws (pv false c) false).trans (by decide)) () (O c 1) rfl)
    $$ [HO Htf HPf]
  · isplitr; · iexact HI1
    isplitl [HO]; · iexact HO
    isplitl [Htf]; · iexact Htf
    isplitl [HPf]; · rw [payload_bar]; iexact HPf
    iexact HR1
  iintro HO
  iapply (Rounds.wp_signal 𝒱₀ ER (Rd xs ws) (c : Thread nD τ) none (dst := (pv true c : Thread nD τ)) (κ := κ2)
      (d := true) (by rw [duties_bar]; exact Finset.mem_univ _) ((amount_bar xs ws (pv true c) true).trans (by decide)) () (O c 2) rfl)
    $$ [HO Htt HPt]
  · isplitr; · iexact HI2
    isplitl [HO]; · iexact HO
    isplitl [Htt]; · iexact Htt
    isplitl [HPt]; · rw [payload_bar]; iexact HPt
    iexact HR2
  iintro HO
  iapply (Rounds.wp_wait_rest_token 𝒱₀ ER (Rd xs ws) (c : Thread nD τ) none (κ := κ3)
      (wpE_semWait_eq 𝒱₀ (c : Thread nD τ) none Set.univ) (Set.mem_univ _) () (O := O c 2) (W := Wt) (R := 0) (m := 0) (T := ∅)
      (by rw [expect_bar]; decide)) $$ [Hc HO Hat]
  · isplitr; · iexact HI3
    isplitl [Hc]; · iexact Hc
    isplitl [HO]; · iexact HO
    isplitr
    · iapply (mayWait (F := F) c (.reg barS) 2 (by decide)); iexact Hlev
    iexact Hat
  iintro ⟨HO, Hat, -, Hp⟩
  ihave Hp := (Entails.of_eq (rest_bar xs ws c)) $$ Hp
  imod (Rounds.cell_close ER (Rd xs ws) (Set.mem_univ κ3) (fun h => h) (R := 0 + 1) (duties_later xs ws (barCell c))) $$ [Hat] with Hz
  · isplitr; · iexact HI3
    iexact Hat
  icases Hp with ⟨Hp1, Hp2⟩
  iapply Hk
  isplitl [HO]; · iexists _; iexact HO
  isplitl [Hp1]; · iexact Hp1
  isplitl [Hp2] <;> iassumption

/-! ## One chunk of the product, one accumulation -/

/-- The device's x and w, staged. -/
def XW : sProp 𝕄 :=
  iprop(owns (c : Thread nD τ) xM fullShare (xs c) ∗ owns (c : Thread nD τ) wM fullShare (ws c))

theorem chunk_wp (b : Bool) (dst : Memref sig .tc .vmem S512x1024 .f32) (g : Fin 8) {o : Fin 2 → ℕ}
    {h : ∀ a, o a + S512x512.size a ≤ S4096x512.size a} (ho : o = ![512 * g.val, 0]) {k : Pg F} :
    iprop(XW c xs ws ∗ some' (F := F) c dst)
      ⊢ iprop(((XW c xs ws ∗ owns (c : Thread nD τ) dst fullShare (pch xs ws b c g)) -∗ W c Q k) -∗ W c Q (chunkStep b dst o h k)) := by
  subst ho
  unfold XW some' chunkStep
  iintro ⟨⟨Hx, Hw⟩, ⟨%Y, Hd⟩⟩ Hk
  iapply (load_part c xM fullShare (xs c) (xR g)) $$ Hx
  iintro Hx
  iapply (load_part c wM fullShare (ws c) (wR b)) $$ Hw
  iintro Hw
  iapply (load_all c dst fullShare Y off00 _) $$ Hd
  iintro Hd
  iapply (store_all c dst Y off00 _) $$ Hd
  iintro Hd
  iapply Hk
  isplitr [Hd]
  · isplitl [Hx] <;> iassumption
  iexact Hd

theorem acc_wp (b : Bool) (s : Fin 7) (X P : S512x1024.Idx → Elt F .f32) {k : Pg F} :
    iprop(owns (c : Thread nD τ) (slotM b s) fullShare X ∗ owns (c : Thread nD τ) (pM b) fullShare P)
      ⊢ iprop(((owns (c : Thread nD τ) (slotM b s) fullShare (addf (F := F) (φ := .f32) (X : FVec F S512x1024 .f32) P : FVec F S512x1024 .f32) ∗ some' (F := F) c (pM b)) -∗ W c Q k)
        -∗ W c Q (accStep b s k)) := by
  unfold slotM accStep some'
  iintro ⟨Hs, Hp⟩ Hk
  iapply (load_slot c (cM b) (slotR s) (fun _ => rfl) squeezes_S1x512x1024_S512x1024 fullShare X shapeCasts_S512x1024_S1x512x1024) $$ Hs
  iintro Hs
  iapply (load_all c (pM b) fullShare P off00 _) $$ Hp
  iintro Hp
  iapply (load_slot c (cM b) (slotR s) (fun _ => rfl) squeezes_S1x512x1024_S512x1024 fullShare X shapeCasts_S512x1024_S1x512x1024) $$ Hs
  iintro Hs
  iapply (store_slot c (cM b) (slotR s) (fun _ => rfl) squeezes_S1x512x1024_S512x1024 X shapeCasts_S1x512x1024_S512x1024) $$ Hs
  iintro Hs
  iapply Hk
  isplitl [Hs]
  · ihave Hs := (Entails.of_eq (congrArg (fun Y => (owns (c : Thread nD τ) (((cM b).slice (slotR s) (fun _ => rfl)).squeeze S512x1024 squeezes_S1x512x1024_S512x1024) fullShare Y : sProp 𝕄))
      (show shapeCast S512x1024 (accV (F := F) (shapeCast (slotR s).shape X shapeCasts_S512x1024_S1x512x1024) P) shapeCasts_S1x512x1024_S512x1024
          = (addf (F := F) (φ := .f32) (X : FVec F S512x1024 .f32) P : FVec F S512x1024 .f32) from by
        change shapeCast S512x1024 (accV (F := F) (shapeCast S1x512x1024 X shapeCasts_S512x1024_S1x512x1024) P) shapeCasts_S1x512x1024_S512x1024 = _
        unfold accV; rw [shapeCast_shapeCast, shapeCast_shapeCast]))) $$ Hs
    iexact Hs
  · iexists P; iexact Hp

/-! ## The reduce-scatter -/

/-- What every step computes with. -/
def Scr : sProp 𝕄 := iprop(XW c xs ws ∗ some' (F := F) c (pM false) ∗ some' (F := F) c (pM true))
/-- What step `s` starts from beside its sources, and what it leaves for good: its sources, this device's own row of one
    peer's buffer, its cells at zero. -/
def RsT (s : Fin 7) : sProp 𝕄 :=
  iprop((some' (F := F) (nb false c) (slotM false s) ∗ Ends (rsK false false) (rsK false true) s c)
    ∗ (some' (F := F) (nb true c) (slotM true s) ∗ Ends (rsK true false) (rsK true true) s c))
def RsD (s : Fin 7) : sProp 𝕄 :=
  iprop((some' (F := F) c (srcM false s) ∗ some' (F := F) c (srcM true s)) ∗ some' (F := F) (dat (plus (pos c) (15 - s.val))) (rowD c)
    ∗ Shut (F := F) (rsK false false) (rsK false true) s c ∗ Shut (F := F) (rsK true false) (rsK true true) s c)

omit [FloatOps F] in
/-- Of the rows that arrive, the first is kept; the others go on. -/
theorem rows_step (s : Fin 7) : rowsIn (F := F) false (pos c) s.val
    ⊢ iprop(some' (F := F) (dat (plus (pos c) (15 - s.val))) (rowD c) ∗ rowsIn (F := F) false (pos (nb false c)) (s.val + 1)) := by
  have e1 : 7 - s.val = (7 - (s.val + 1)) + 1 := by have := s.isLt; omega
  have e2 : plus (pos (nb false c)) (15 - (s.val + 1)) = plus (pos c) (15 - s.val) := by revert c s; decide
  have e3 : plus (pos c) 1 = pos (nb false c) := by clear e1 e2; revert c; decide
  show rows (F := F) (plus (pos c) (15 - s.val)) (pos c) (7 - s.val)
    ⊢ iprop(_ ∗ rows (F := F) (plus (pos (nb false c)) (15 - (s.val + 1))) (pos (nb false c)) (7 - (s.val + 1)))
  rw [e1, e2, ← e3]
  show iprop(some' (F := F) (dat (plus (pos c) (15 - s.val))) (rowD (dat (pos c))) ∗ _) ⊢ _
  rw [dat_pos]

theorem rsRecv (b : Bool) (s : Fin 7) :
    iprop(owns (nb b c : Thread nD τ) (slotM b s) fullShare (sent xs ws b s.val c) ∗ rowsIn (F := F) b (pos (nb b c)) s.val)
      ⊢ dmaPay xs ws (rsK b true) s (nb b c) := by
  rw [pay_rs]
  show _ ⊢ iprop(owns (nb b c : Thread nD τ) (slotM b s) fullShare (sent xs ws b s.val (pv b (nb b c))) ∗ rowsIn (F := F) b (pos (nb b c)) s.val)
  rw [pv_nb]

theorem rsPayIdx : ∀ s : Fin 7, pays[2 + 2 * s.val]? = some (.inr (rsK false true, s)) ∧ pays[2 + 2 * s.val + 1]? = some (.inr (rsK true true, s)) := by
  decide
theorem rsLev : ∀ (s : Fin 7), (∀ j ∈ pays.drop (2 + 2 * s.val + 1 + 1), lvJ (.inr (rsK false true, s)) < lvJ j)
    ∧ ∀ j ∈ pays.drop (2 + 2 * s.val + 1 + 1), 0 < lvJ j := by decide

theorem rsStep_wp (s : Fin 7) (n : ℕ) (hn : n = 2 + 2 * s.val) {dA dB : Dev nD} (hdA : dA = nb false c) (hdB : dB = nb true c)
    {hA : (srcM false s).view.WordExact} {hB : (srcM true s).view.WordExact} {k : Pg F} :
    iprop(Rec xs ws ∗ levAts L lv ∗ Scr c xs ws ∗ owns (c : Thread nD τ) (srcM false s) fullShare (sent xs ws false s.val c)
        ∗ owns (c : Thread nD τ) (srcM true s) fullShare (sent xs ws true s.val c) ∗ RsT c s
        ∗ rowsIn (F := F) false (pos (nb false c)) s.val ∗ Ow (F := F) c (O c n))
      ⊢ iprop(((Scr c xs ws ∗ owns (c : Thread nD τ) (slotM false s) fullShare (sent xs ws false (s.val + 1) c)
          ∗ owns (c : Thread nD τ) (slotM true s) fullShare (sent xs ws true (s.val + 1) c) ∗ RsD (F := F) c s
          ∗ rowsIn (F := F) false (pos (nb false c)) (s.val + 1) ∗ Ow (F := F) c (O c (n + 2))) -∗ W c Q k)
        -∗ W c Q (rsStep c s dA dB (srcM false s) (srcM true s) hA hB k)) := by
  subst hn hdA hdB
  have hsrc (b : Bool) : (srcM b s).view.dmaCredit = amt (rsK b false) := by
    unfold srcM; split
    · rw [amt_gM]; cases b <;> rfl
    · rw [amt_slot]; cases b <;> rfl
  have hdst (b r : Bool) : (slotM b s).view.dmaCredit = amt (rsK b r) := by
    rw [amt_slot]; cases b <;> cases r <;> rfl
  unfold Scr RsT RsD rsStep
  iintro ⟨#HR, #Hlev, ⟨HXW, HpA, HpB⟩, HsA, HsB, ⟨⟨HdA, HEA⟩, HdB, HEB⟩, Hrows, HO⟩ Hk
  iapply (sendT_wp c xs ws (2 + 2 * s.val) (rsK false false) (rsK false true) s (rsPayIdx s).1 rfl (hdst false true) rfl
    (Fr := rowsIn (F := F) false (pos (nb false c)) s.val) (Entails.of_eq (pay_rs xs ws false false s c).symm) (rsRecv c xs ws false s)) $$ [HsA HdA HEA Hrows HO]
  · isplitr; · iexact HR
    isplitl [HsA]; · iexact HsA
    isplitl [HdA]; · iexact HdA
    isplitl [Hrows]; · iexact Hrows
    isplitl [HO] <;> iassumption
  iintro ⟨HEA, HO⟩
  iapply (sendT_wp c xs ws (2 + 2 * s.val + 1) (rsK true false) (rsK true true) s (rsPayIdx s).2 rfl (hdst true true) rfl
    (Fr := rowsIn (F := F) true (pos (nb true c)) s.val) (Entails.of_eq (pay_rs xs ws true false s c).symm) (rsRecv c xs ws true s)) $$ [HsB HdB HEB HO]
  · isplitr; · iexact HR
    isplitl [HsB]; · iexact HsB
    isplitl [HdB]; · iexact HdB
    isplitr
    · unfold rowsIn; iempintro
    isplitl [HO] <;> iassumption
  iintro ⟨HEB, HO⟩
  iapply (chunk_wp c xs ws false (pM false) (chI false (pos c) s.val) (off2_eq c s)) $$ [HXW HpA]
  · isplitl [HXW] <;> iassumption
  iintro ⟨HXW, HpA⟩
  iapply (chunk_wp c xs ws true (pM true) (chI true (pos c) s.val) (off3_eq c s)) $$ [HXW HpB]
  · isplitl [HXW] <;> iassumption
  iintro ⟨HXW, HpB⟩
  iapply (waitT_wp c xs ws (2 + 2 * s.val + 1 + 1) (rsK false false) (rsK false true) s (hsrc false) (hdst false true)
    (rsLev s).2 (rsLev s).1) $$ [HEA HO]
  · isplitr; · iexact HR
    isplitr; · iexact Hlev
    isplitl [HEA] <;> iassumption
  iintro ⟨HO, HSA, HRA, HZA⟩
  iapply (waitT_wp c xs ws (2 + 2 * s.val + 1 + 1) (rsK true false) (rsK true true) s (hsrc true) (hdst true true)
    (rsLev s).2 (rsLev s).1) $$ [HEB HO]
  · isplitr; · iexact HR
    isplitr; · iexact Hlev
    isplitl [HEB] <;> iassumption
  iintro ⟨HO, HSB, HRB, HZB⟩
  ihave HSA := (Entails.of_eq (pay_rs xs ws false false s c)) $$ HSA
  ihave HSB := (Entails.of_eq (pay_rs xs ws true false s c)) $$ HSB
  ihave HRA := (Entails.of_eq (pay_rs xs ws false true s c)) $$ HRA
  ihave HRB := (Entails.of_eq (pay_rs xs ws true true s c)) $$ HRB
  unfold rsPay
  icases HRA with ⟨HcA, Hrows⟩
  icases HRB with ⟨HcB, -⟩
  ihave Hrows := (rows_step (F := F) c s) $$ Hrows
  icases Hrows with ⟨Hrow, Hrows⟩
  iapply (acc_wp c false s _ _) $$ [HcA HpA]
  · isplitl [HcA] <;> iassumption
  iintro ⟨HcA, HpA⟩
  iapply (acc_wp c true s _ _) $$ [HcB HpB]
  · isplitl [HcB] <;> iassumption
  iintro ⟨HcB, HpB⟩
  iapply Hk
  isplitl [HXW HpA HpB]
  · isplitl [HXW]; · iexact HXW
    isplitl [HpA] <;> iassumption
  isplitl [HcA]; · iexact HcA
  isplitl [HcB]; · iexact HcB
  isplitr [Hrows HO]
  · isplitl [HSA HSB]
    · unfold some'
      isplitl [HSA]
      · iexists _; iexact HSA
      · iexists _; iexact HSB
    isplitl [Hrow]; · iexact Hrow
    isplitl [HZA] <;> iassumption
  isplitl [Hrows] <;> iassumption

end Cert.KernelIdeal.Ring

end
-- ==== Proof.Gather.lean ====
/- The second half of the body on one device: the maxima exchanged, the reduced chunk quantised, the quantised blocks
   passed round the ring, each block dequantised and copied to the output. -/
module

public import proofs.«01_k».proof.Proof.Walk

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (c : Dev nD) {Q : PUnit.{1} → sProp (MT nD τ sig Unit (Elt F) ℕ UU ℕ)}
variable (xs : Dev nD → (cc0_stg0_0 : Ref sig .tc).ty.Contents (Elt F)) (ws : Dev nD → (cc0_stg1_0 : Ref sig .tc).ty.Contents (Elt F))

/-! ## The maxima -/

theorem rowM_eq {o : Fin 2 → ℕ} {h : ∀ a, o a + S1x128.size a ≤ S8x128.size a} {d : Dev nD} (ho : o = ![d.val, 0]) : rowM o h = rowD d := by
  subst ho; rfl
theorem blkM_eq {b : Bool} {o : Fin 3 → ℕ} {h : ∀ a, o a + S1x512x1024.size a ≤ S8x512x1024.size a} {g : Fin 8} (ho : o = ![g.val, 0, 0]) :
    blkM b o h = qB b g := by
  subst ho; rfl

theorem axStore_wp {k : Pg F} :
    iprop(owns (c : Thread nD τ) (slotM false 6) fullShare (sent xs ws false 7 c) ∗ owns (c : Thread nD τ) (slotM true 6) fullShare (sent xs ws true 7 c)
        ∗ some' (F := F) c axS ∗ some' (F := F) c (rowD c))
      ⊢ iprop(((owns (c : Thread nD τ) (slotM false 6) fullShare (sent xs ws false 7 c) ∗ owns (c : Thread nD τ) (slotM true 6) fullShare (sent xs ws true 7 c)
          ∗ owns (c : Thread nD τ) axS fullShare (axRow xs ws c) ∗ owns (c : Thread nD τ) (rowD c) fullShare (axRow xs ws c)) -∗ W c Q k)
        -∗ W c Q (axStore c k)) := by
  rw [show rowD c = rowM (k0_off4 c) (k0_off4_inb c) from (rowM_eq (off4_eq c)).symm]
  unfold slotM rowM axStore some'
  iintro ⟨HA, HB, ⟨%Y, HS⟩, ⟨%Z, HR⟩⟩ Hk
  iapply (load_slot c (cM false) (slotR 6) (fun _ => rfl) squeezes_S1x512x1024_S512x1024 fullShare _ shapeCasts_S512x1024_S1x512x1024) $$ HA
  iintro HA
  iapply (load_slot c (cM true) (slotR 6) (fun _ => rfl) squeezes_S1x512x1024_S512x1024 fullShare _ shapeCasts_S512x1024_S1x512x1024) $$ HB
  iintro HB
  iapply (load_all c axS fullShare Y off00 _) $$ HS
  iintro HS
  iapply (store_all c axS Y off00 _) $$ HS
  iintro HS
  iapply (load_slice c axB (Rect.unit (s := S8x128) (k0_off4 c) S1x128.size (k0_off4_inb c)) (fun _ => rfl) fullShare Z) $$ HR
  iintro HR
  iapply (store_slice c axB (Rect.unit (s := S8x128) (k0_off4 c) S1x128.size (k0_off4_inb c)) (fun _ => rfl) Z) $$ HR
  iintro HR
  iapply Hk
  isplitl [HA]; · iexact HA
  isplitl [HB]; · iexact HB
  isplitl [HS]; · iexact HS
  iexact HR

theorem axPayIdx : ∀ s : Fin 7, pays[16 + s.val]? = some (.inr (axK true, s)) := by decide
theorem axLev : ∀ (s : Fin 7), (∀ j ∈ pays.drop 23, lvJ (.inr (axK true, s)) < lvJ j) := by decide
theorem lev0 : ∀ n : Fin 38, ∀ j ∈ pays.drop n.val, 0 < lvJ j := by decide

theorem axSend_wp (s : Fin 7) (n : ℕ) (hn : n = 16 + s.val) {dev : Dev nD} (hd : dev = peer s c) {k : Pg F} :
    iprop(Rec xs ws ∗ owns (c : Thread nD τ) axS (left s.val) (axRow xs ws c) ∗ some' (F := F) (peer s c) (rowD c)
        ∗ Ow (F := F) c (O c n) ∗ Ends (axK false) (axK true) s c)
      ⊢ iprop(((owns (c : Thread nD τ) axS (left (s.val + 1)) (axRow xs ws c) ∗ Sent (axK false) (axK true) s c ∗ Ow (F := F) c (O c (n + 1))) -∗ W c Q k)
        -∗ W c Q (axSend c s dev k)) := by
  subst hn hd
  have er : rowM (k0_off5 c) (k0_off5_inb c) = rowD c := rowM_eq (off5_eq c)
  rw [show some' (F := F) (peer s c) (rowD c) = some' (F := F) (peer s c) (rowM (k0_off5 c) (k0_off5_inb c)) from by rw [er]]
  unfold axSend
  iintro ⟨#HR, HS, Hd, HO, HE⟩ Hk
  ihave HS := (owns_halves (c : Thread nD τ) axS (left s.val) (axRow xs ws c)).1 $$ HS
  icases HS with ⟨HS, HS'⟩
  iapply (sendT_wp c xs ws (16 + s.val) (axK false) (axK true) s (axPayIdx s) rfl (amt_row _ _) rfl (q := piece s.val) (X := axRow xs ws c)
    (Fr := iprop(emp)) (Entails.of_eq (pay_ax xs ws false s c).symm) (by
      rw [pay_ax, er]
      show _ ⊢ owns (peer s c : Thread nD τ) (rowD (from' s (peer s c))) fullShare (axRow xs ws (from' s (peer s c)))
      rw [from_peer]
      iintro ⟨H, -⟩; iexact H)) $$ [HS Hd HO HE]
  · isplitr; · iexact HR
    isplitl [HS]; · iexact HS
    isplitl [Hd]; · iexact Hd
    isplitr; · iempintro
    isplitl [HO] <;> iassumption
  iintro ⟨HE, HO⟩
  iapply Hk
  isplitl [HS']; · iexact HS'
  isplitl [HE] <;> iassumption

theorem axWait_wp (s : Fin 7) {k : Pg F} :
    iprop(Rec xs ws ∗ levAts L lv ∗ Sent (axK false) (axK true) s c ∗ Ow (F := F) c (O c 23))
      ⊢ iprop(((Ow (F := F) c (O c 23) ∗ owns (c : Thread nD τ) axS (piece s.val) (axRow xs ws c)
          ∗ owns (c : Thread nD τ) (rowD (from' s c)) fullShare (axRow xs ws (from' s c)) ∗ Shut (F := F) (axK false) (axK true) s c) -∗ W c Q k)
        -∗ W c Q (axWait c s k)) := by
  unfold axWait
  iintro ⟨#HR, #Hlev, HS, HO⟩ Hk
  iapply (waitT_wp c xs ws 23 (axK false) (axK true) s rfl (amt_row _ _) (lev0 23) (axLev s)) $$ [HS HO]
  · isplitr; · iexact HR
    isplitr; · iexact Hlev
    isplitl [HS] <;> iassumption
  iintro ⟨HO, HP1, HP2, HZ⟩
  ihave HP1 := (Entails.of_eq (pay_ax xs ws false s c)) $$ HP1
  ihave HP2 := (Entails.of_eq (pay_ax xs ws true s c)) $$ HP2
  unfold axPay
  iapply Hk
  isplitl [HO]; · iexact HO
  isplitl [HP1]; · iexact HP1
  isplitl [HP2] <;> iassumption

/-! ## Quantise, dequantise, copy out -/

/-- Block `g` of a side, quantised, at share `q`. -/
def Blk (b : Bool) (g : Fin 8) (q : PosShare TreeShare) : sProp 𝕄 := owns (c : Thread nD τ) (qB b g) q (qv xs ws b g)

theorem quant_wp (b : Bool) {o : Fin 3 → ℕ} {h : ∀ a, o a + S1x512x1024.size a ≤ S8x512x1024.size a}
    {hp : (blkR o h).PackedRows (EltTy.packing .i8)} (ho : o = ![(agI b (pos c) 0).val, 0, 0]) {k : Pg F} :
    iprop(owns (c : Thread nD τ) (slotM b 6) fullShare (sent xs ws b 7 c) ∗ some' (F := F) c (qB b (agI b (pos c) 0)))
      ⊢ iprop(((owns (c : Thread nD τ) (slotM b 6) fullShare (sent xs ws b 7 c) ∗ Blk c xs ws b (agI b (pos c) 0) fullShare) -∗ W c Q k)
        -∗ W c Q (quantStep b o h hp (axFull xs ws) k)) := by
  subst ho
  unfold slotM quantStep some' Blk qB blkM
  iintro ⟨HA, ⟨%Y, HB⟩⟩ Hk
  iapply (load_slot c (cM b) (slotR 6) (fun _ => rfl) squeezes_S1x512x1024_S512x1024 fullShare _ shapeCasts_S512x1024_S1x512x1024) $$ HA
  iintro HA
  iapply (load_slot c (qM b) (blkR ![(agI b (pos c) 0).val, 0, 0] (qin _)) (fun _ => rfl) squeezes_S1x512x1024_S512x1024 fullShare Y shapeCasts_S512x1024_S1x512x1024) $$ HB
  iintro HB
  iapply (store_slot c (qM b) (blkR ![(agI b (pos c) 0).val, 0, 0] (qin _)) (fun _ => rfl) squeezes_S1x512x1024_S512x1024 Y shapeCasts_S1x512x1024_S512x1024) $$ HB
  iintro HB
  iapply Hk
  isplitl [HA]; · iexact HA
  unfold qv
  rw [owner_own]
  iexact HB

theorem deq_wp (b : Bool) (u : Fin 7) (g : Fin 8) (q : PosShare TreeShare) {o : Fin 3 → ℕ} {h : ∀ a, o a + S1x512x1024.size a ≤ S8x512x1024.size a}
    (ho : o = ![g.val, 0, 0]) {k : Pg F} :
    iprop(Blk c xs ws b g q ∗ some' (F := F) c (slotM b u))
      ⊢ iprop(((Blk c xs ws b g q ∗ owns (c : Thread nD τ) (slotM b u) fullShare (outv xs ws b g)) -∗ W c Q k)
        -∗ W c Q (deqStep b u o h (k0_pay42 (axFull xs ws)) k)) := by
  subst ho
  unfold slotM deqStep some' Blk qB blkM
  iintro ⟨HB, ⟨%Y, HA⟩⟩ Hk
  iapply (load_slot c (qM b) (blkR ![g.val, 0, 0] (qin _)) (fun _ => rfl) squeezes_S1x512x1024_S512x1024 q _ shapeCasts_S512x1024_S1x512x1024) $$ HB
  iintro HB
  iapply (load_slot c (cM b) (slotR u) (fun _ => rfl) squeezes_S1x512x1024_S512x1024 fullShare Y shapeCasts_S512x1024_S1x512x1024) $$ HA
  iintro HA
  iapply (store_slot c (cM b) (slotR u) (fun _ => rfl) squeezes_S1x512x1024_S512x1024 Y shapeCasts_S1x512x1024_S512x1024) $$ HA
  iintro HA
  iapply Hk
  isplitl [HB]; · iexact HB
  iexact HA

/-- A copy of block `g` under way from slot `u`; a slot free on both sides. -/
def FlyB (b : Bool) (u : Fin 3) (g : Fin 8) : sProp 𝕄 := Fly (F := F) c b u ![512 * g.val, colO b] (win_inb b g) (outv xs ws b g)
def Idle (u : Fin 3) : sProp 𝕄 :=
  iprop((some' (F := F) c (slotM false (stg u)) ∗ some' (F := F) c (slotM true (stg u))) ∗ semVal (stG c false u) 0 ∗ semVal (stG c true u) 0)
/-- A window of the output, written. -/
def Win (b : Bool) (g : Fin 8) : sProp 𝕄 := owns (c : Thread nD τ) (winB b g) fullShare (outv xs ws b g)

theorem out_wp (gA gB : Fin 8) (u : Fin 3) (q : PosShare TreeShare) {oA oB : Fin 3 → ℕ} {hA hB} {wA wB : Fin 2 → ℕ} {hwA hwB}
    (hoA : oA = ![gA.val, 0, 0]) (hoB : oB = ![gB.val, 0, 0]) (eA : wA = ![512 * gA.val, 0]) (eB : wB = ![512 * gB.val, 1024]) {k : Pg F} :
    iprop((Blk c xs ws false gA q ∗ Blk c xs ws true gB q) ∗ Idle (F := F) c u ∗ some' (F := F) c (winB false gA) ∗ some' (F := F) c (winB true gB))
      ⊢ iprop((((Blk c xs ws false gA q ∗ Blk c xs ws true gB q) ∗ FlyB c xs ws false u gA ∗ FlyB c xs ws true u gB) -∗ W c Q k)
        -∗ W c Q (deqStep false (stg u) oA hA (k0_pay42 (axFull xs ws)) (deqStep true (stg u) oB hB (k0_pay42 (axFull xs ws))
            (copyStep false u wA hwA (copyStep true u wB hwB k))))) := by
  subst eA eB
  unfold Idle FlyB
  iintro ⟨⟨HBA, HBB⟩, ⟨⟨HsA, HsB⟩, HzA, HzB⟩, HwA, HwB⟩ Hk
  iapply (deq_wp c xs ws false (stg u) gA q hoA) $$ [HBA HsA]
  · isplitl [HBA] <;> iassumption
  iintro ⟨HBA, HsA⟩
  iapply (deq_wp c xs ws true (stg u) gB q hoB) $$ [HBB HsB]
  · isplitl [HBB] <;> iassumption
  iintro ⟨HBB, HsB⟩
  unfold some'
  icases HwA with ⟨%YA, HwA⟩
  icases HwB with ⟨%YB, HwB⟩
  iapply (copy_wp c false u _ _ (outv xs ws false gA) YA) $$ [HsA HwA HzA]
  · isplitl [HsA]; · iexact HsA
    isplitl [HwA]; · iexact HwA
    iexact HzA
  iintro HFA
  iapply (copy_wp c true u _ _ (outv xs ws true gB) YB) $$ [HsB HwB HzB]
  · isplitl [HsB]; · iexact HsB
    isplitl [HwB]; · iexact HwB
    iexact HzB
  iintro HFB
  iapply Hk
  isplitl [HBA HBB]
  · isplitl [HBA] <;> iassumption
  isplitl [HFA]; · iexact HFA
  iexact HFB

theorem landed_wp (gA gB : Fin 8) (u : Fin 3) (n : ℕ) (hn : n < 38) {k : Pg F} :
    iprop(levAts L lv ∗ FlyB c xs ws false u gA ∗ FlyB c xs ws true u gB ∗ Ow (F := F) c (O c n))
      ⊢ iprop(((Win c xs ws false gA ∗ Win c xs ws true gB ∗ Idle (F := F) c u ∗ Ow (F := F) c (O c n)) -∗ W c Q k)
        -∗ W c Q (stWait false u (stWait true u k))) := by
  unfold FlyB Win Idle
  iintro ⟨#Hlev, HA, HB, HO⟩ Hk
  iapply (stWait_wp c false u n (lev0 ⟨n, hn⟩) _ _ _) $$ [HA HO]
  · isplitr; · iexact Hlev
    isplitl [HA] <;> iassumption
  iintro ⟨HO, HwA, HsA, HzA⟩
  iapply (stWait_wp c true u n (lev0 ⟨n, hn⟩) _ _ _) $$ [HB HO]
  · isplitr; · iexact Hlev
    isplitl [HB] <;> iassumption
  iintro ⟨HO, HwB, HsB, HzB⟩
  iapply Hk
  isplitl [HwA]; · iexact HwA
  isplitl [HwB]; · iexact HwB
  isplitr [HO]
  · isplitl [HsA HsB]
    · unfold some'
      isplitl [HsA]
      · iexists _; iexact HsA
      · iexists _; iexact HsB
    isplitl [HzA] <;> iassumption
  iexact HO

/-! ## The all-gather -/

/-- What step `t` starts from; both sides' blocks of step `t`; what is in hand between send and wait. -/
def AgT (t : Fin 7) : sProp 𝕄 :=
  iprop((some' (F := F) (nb false c) (qB false (agI false (pos c) t.val)) ∗ Ends (agK false false) (agK false true) t c)
    ∗ (some' (F := F) (nb true c) (qB true (agI true (pos c) t.val)) ∗ Ends (agK true false) (agK true true) t c))
def Blks (t : ℕ) (q : PosShare TreeShare) : sProp 𝕄 :=
  iprop(Blk c xs ws false (agI false (pos c) t) q ∗ Blk c xs ws true (agI true (pos c) t) q)
def AgS (t : Fin 7) : sProp 𝕄 :=
  iprop(Sent (agK false false) (agK false true) t c ∗ Sent (agK true false) (agK true true) t c)
def AgD (t : Fin 7) : sProp 𝕄 :=
  iprop(Shut (F := F) (agK false false) (agK false true) t c ∗ Shut (F := F) (agK true false) (agK true true) t c)

theorem agPayIdx : ∀ s : Fin 7, pays[23 + 2 * s.val]? = some (.inr (agK false true, s)) ∧ pays[23 + 2 * s.val + 1]? = some (.inr (agK true true, s)) := by
  decide
theorem agLev : ∀ (s : Fin 7), (∀ j ∈ pays.drop (25 + 2 * s.val), lvJ (.inr (agK false true, s)) < lvJ j)
    ∧ ∀ j ∈ pays.drop (25 + 2 * s.val), 0 < lvJ j := by decide

theorem agRecv (b : Bool) (t : Fin 7) :
    iprop(owns (nb b c : Thread nD τ) (qB b (agI b (pos c) t.val)) fullShare (qv xs ws b (agI b (pos c) t.val)) ∗ emp)
      ⊢ dmaPay xs ws (agK b true) t (nb b c) := by
  rw [pay_ag]
  show _ ⊢ owns (nb b c : Thread nD τ) (qB b (agI b (pos (nb b c)) (t.val + 1))) fullShare (qv xs ws b (agI b (pos (nb b c)) (t.val + 1)))
  rw [agI_nb]
  iintro ⟨H, -⟩; iexact H

theorem agSend_wp (t : Fin 7) (n : ℕ) (hn : n = 23 + 2 * t.val) {dA dB : Dev nD} (hdA : dA = nb false c) (hdB : dB = nb true c) {k : Pg F} :
    iprop(Rec xs ws ∗ Blks c xs ws t.val fullShare ∗ AgT c t ∗ Ow (F := F) c (O c n))
      ⊢ iprop(((Blks c xs ws t.val fullShare.right ∗ AgS c t ∗ Ow (F := F) c (O c (n + 2))) -∗ W c Q k)
        -∗ W c Q (agSend c t dA dB k)) := by
  subst hn hdA hdB
  have eA : blkM false (k0_off10 c (BitVec.ofNat 32 t.val)) (k0_off10_inb c t) = qB false (agI false (pos c) t.val) := blkM_eq (off10_eq c t)
  have eB : blkM true (k0_off11 c (BitVec.ofNat 32 t.val)) (k0_off11_inb c t) = qB true (agI true (pos c) t.val) := blkM_eq (off11_eq c t)
  unfold AgT AgS Blks Blk agSend
  iintro ⟨#HR, ⟨HBA, HBB⟩, ⟨⟨HdA, HEA⟩, HdB, HEB⟩, HO⟩ Hk
  ihave HBA := (owns_halves (c : Thread nD τ) (qB false (agI false (pos c) t.val)) fullShare _).1 $$ HBA
  ihave HBB := (owns_halves (c : Thread nD τ) (qB true (agI true (pos c) t.val)) fullShare _).1 $$ HBB
  icases HBA with ⟨HLA, HBA⟩
  icases HBB with ⟨HLB, HBB⟩
  iapply (sendT_wp c xs ws (23 + 2 * t.val) (agK false false) (agK false true) t (agPayIdx t).1 rfl (amt_blk _ _ _) rfl
    (q := fullShare.left) (X := qv xs ws false (agI false (pos c) t.val)) (Fr := iprop(emp))
    (by rw [eA]; exact Entails.of_eq (pay_ag xs ws false false t c).symm) (by rw [eA]; exact agRecv c xs ws false t)) $$ [HLA HdA HEA HO]
  · isplitr; · iexact HR
    isplitl [HLA]; · rw [eA]; iexact HLA
    isplitl [HdA]; · rw [eA]; iexact HdA
    isplitr; · iempintro
    isplitl [HO] <;> iassumption
  iintro ⟨HEA, HO⟩
  iapply (sendT_wp c xs ws (23 + 2 * t.val + 1) (agK true false) (agK true true) t (agPayIdx t).2 rfl (amt_blk _ _ _) rfl
    (q := fullShare.left) (X := qv xs ws true (agI true (pos c) t.val)) (Fr := iprop(emp))
    (by rw [eB]; exact Entails.of_eq (pay_ag xs ws true false t c).symm) (by rw [eB]; exact agRecv c xs ws true t)) $$ [HLB HdB HEB HO]
  · isplitr; · iexact HR
    isplitl [HLB]; · rw [eB]; iexact HLB
    isplitl [HdB]; · rw [eB]; iexact HdB
    isplitr; · iempintro
    isplitl [HO] <;> iassumption
  iintro ⟨HEB, HO⟩
  iapply Hk
  isplitl [HBA HBB]
  · isplitl [HBA] <;> iassumption
  isplitl [HEA HEB]
  · isplitl [HEA] <;> iassumption
  iexact HO

theorem agWait_wp (t : Fin 7) (n : ℕ) (hn : n = 25 + 2 * t.val) {k : Pg F} :
    iprop(Rec xs ws ∗ levAts L lv ∗ Blks c xs ws t.val fullShare.right ∗ AgS c t ∗ Ow (F := F) c (O c n))
      ⊢ iprop(((Blks c xs ws t.val fullShare ∗ Blks c xs ws (t.val + 1) fullShare ∗ AgD (F := F) c t ∗ Ow (F := F) c (O c n)) -∗ W c Q k)
        -∗ W c Q (agWait c t k)) := by
  subst hn
  unfold AgS AgD Blks Blk agWait
  iintro ⟨#HR, #Hlev, ⟨HBA, HBB⟩, ⟨HEA, HEB⟩, HO⟩ Hk
  iapply (waitT_wp c xs ws (25 + 2 * t.val) (agK false false) (agK false true) t (amt_blk _ _ _) (amt_blk _ _ _)
    (agLev t).2 (agLev t).1) $$ [HEA HO]
  · isplitr; · iexact HR
    isplitr; · iexact Hlev
    isplitl [HEA] <;> iassumption
  iintro ⟨HO, HLA, HRA, HZA⟩
  iapply (waitT_wp c xs ws (25 + 2 * t.val) (agK true false) (agK true true) t (amt_blk _ _ _) (amt_blk _ _ _)
    (agLev t).2 (agLev t).1) $$ [HEB HO]
  · isplitr; · iexact HR
    isplitr; · iexact Hlev
    isplitl [HEB] <;> iassumption
  iintro ⟨HO, HLB, HRB, HZB⟩
  ihave HLA := (Entails.of_eq (pay_ag xs ws false false t c)) $$ HLA
  ihave HLB := (Entails.of_eq (pay_ag xs ws true false t c)) $$ HLB
  ihave HRA := (Entails.of_eq (pay_ag xs ws false true t c)) $$ HRA
  ihave HRB := (Entails.of_eq (pay_ag xs ws true true t c)) $$ HRB
  unfold agPay
  iapply Hk
  isplitl [HBA HBB HLA HLB]
  · isplitl [HBA HLA]
    · iapply (owns_halves (c : Thread nD τ) (qB false (agI false (pos c) t.val)) fullShare _).2
      isplitl [HLA] <;> iassumption
    · iapply (owns_halves (c : Thread nD τ) (qB true (agI true (pos c) t.val)) fullShare _).2
      isplitl [HLB] <;> iassumption
  isplitl [HRA HRB]
  · isplitl [HRA] <;> iassumption
  isplitl [HZA HZB]
  · isplitl [HZA] <;> iassumption
  iexact HO

theorem agOut_wp (t : Fin 7) (u : Fin 3) (q : PosShare TreeShare) {k : Pg F} :
    iprop(Blks c xs ws (t.val + 1) q ∗ Idle (F := F) c u
        ∗ some' (F := F) c (winB false (agI false (pos c) (t.val + 1))) ∗ some' (F := F) c (winB true (agI true (pos c) (t.val + 1))))
      ⊢ iprop(((Blks c xs ws (t.val + 1) q ∗ FlyB c xs ws false u (agI false (pos c) (t.val + 1)) ∗ FlyB c xs ws true u (agI true (pos c) (t.val + 1))) -∗ W c Q k)
        -∗ W c Q (agOut c t u (k0_pay42 (axFull xs ws)) k)) :=
  out_wp c xs ws _ _ u q (off7_eq c t) (off6_eq c t) (off12_eq c t) (off13_eq c t)

end Cert.KernelIdeal.Ring

end
-- ==== Proof.Body.lean ====
/- The whole body on one device: seven steps of the reduce-scatter, the maxima, seven steps of the all-gather. -/
module

public import proofs.«01_k».proof.Proof.Gather

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (c : Dev nD) {Q : PUnit.{1} → sProp (MT nD τ sig Unit (Elt F) ℕ UU ℕ)}
variable (xs : Dev nD → (cc0_stg0_0 : Ref sig .tc).ty.Contents (Elt F)) (ws : Dev nD → (cc0_stg1_0 : Ref sig .tc).ty.Contents (Elt F))

omit [FloatOps F] in
theorem seven (f : Fin 7 → sProp 𝕄) : bigSep Finset.univ f = iprop(f 0 ∗ f 1 ∗ f 2 ∗ f 3 ∗ f 4 ∗ f 5 ∗ f 6) := by
  rw [bigSep_univ_eq_bigSepL [0, 1, 2, 3, 4, 5, 6] (by decide) (by decide)]; rfl
omit [FloatOps F] in
theorem eight (f : Fin 8 → sProp 𝕄) : bigSep Finset.univ f = iprop(f 0 ∗ f 1 ∗ f 2 ∗ f 3 ∗ f 4 ∗ f 5 ∗ f 6 ∗ f 7) := by
  rw [bigSep_univ_eq_bigSepL [0, 1, 2, 3, 4, 5, 6, 7] (by decide) (by decide)]; rfl

/-! ## The devices the sends name -/

theorem rsA_dev : ∀ c : Dev nD, k0_dev3 c = (nb false c).val ∧ k0_dev5 c = (nb false c).val ∧ k0_dev7 c = (nb false c).val ∧ k0_dev9 c = (nb false c).val ∧ k0_dev11 c = (nb false c).val ∧ k0_dev13 c = (nb false c).val ∧ k0_dev15 c = (nb false c).val := by
  decide +kernel
theorem rsB_dev : ∀ c : Dev nD, k0_dev4 c = (nb true c).val ∧ k0_dev6 c = (nb true c).val ∧ k0_dev8 c = (nb true c).val ∧ k0_dev10 c = (nb true c).val ∧ k0_dev12 c = (nb true c).val ∧ k0_dev14 c = (nb true c).val ∧ k0_dev16 c = (nb true c).val := by
  decide +kernel
theorem ax_dev : ∀ c : Dev nD, k0_dev17 c = (peer 0 c).val ∧ k0_dev18 c = (peer 1 c).val ∧ k0_dev19 c = (peer 2 c).val ∧ k0_dev20 c = (peer 3 c).val ∧ k0_dev21 c = (peer 4 c).val ∧ k0_dev22 c = (peer 5 c).val ∧ k0_dev23 c = (peer 6 c).val := by
  decide +kernel
theorem agA_dev : ∀ c : Dev nD, k0_dev24 c = (nb false c).val ∧ k0_dev26 c = (nb false c).val ∧ k0_dev28 c = (nb false c).val ∧ k0_dev30 c = (nb false c).val ∧ k0_dev32 c = (nb false c).val ∧ k0_dev34 c = (nb false c).val ∧ k0_dev36 c = (nb false c).val := by
  decide +kernel
theorem agB_dev : ∀ c : Dev nD, k0_dev25 c = (nb true c).val ∧ k0_dev27 c = (nb true c).val ∧ k0_dev29 c = (nb true c).val ∧ k0_dev31 c = (nb true c).val ∧ k0_dev33 c = (nb true c).val ∧ k0_dev35 c = (nb true c).val ∧ k0_dev37 c = (nb true c).val := by
  decide +kernel

/-! ## The reduce-scatter -/

/-- Both sides' chunk of step `s`, in slot or first buffer. -/
def Cur (mA mB : Memref sig .tc .vmem S512x1024 .f32) (s : ℕ) : sProp 𝕄 :=
  iprop(owns (c : Thread nD τ) mA fullShare (sent xs ws false s c) ∗ owns (c : Thread nD τ) mB fullShare (sent xs ws true s c))

theorem rsStep_at (s : Fin 7) (n : ℕ) (hn : n = 2 + 2 * s.val) {dA dB : Dev nD} (hdA : dA = nb false c) (hdB : dB = nb true c)
    {mA mB : Memref sig .tc .vmem S512x1024 .f32} (eA : mA = srcM false s) (eB : mB = srcM true s)
    {hA : mA.view.WordExact} {hB : mB.view.WordExact} {k : Pg F} :
    iprop(Rec xs ws ∗ levAts L lv ∗ Scr c xs ws ∗ Cur c xs ws mA mB s.val ∗ RsT c s
        ∗ rowsIn (F := F) false (pos (nb false c)) s.val ∗ Ow (F := F) c (O c n))
      ⊢ iprop(((Scr c xs ws ∗ Cur c xs ws (slotM false s) (slotM true s) (s.val + 1) ∗ RsD (F := F) c s
          ∗ rowsIn (F := F) false (pos (nb false c)) (s.val + 1) ∗ Ow (F := F) c (O c (n + 2))) -∗ W c Q k)
        -∗ W c Q (rsStep c s dA dB mA mB hA hB k)) := by
  subst eA eB
  unfold Cur
  iintro ⟨#HR, #Hlev, HS, ⟨HA, HB⟩, HT, Hrows, HO⟩ Hk
  iapply (rsStep_wp c xs ws s n hn hdA hdB) $$ [HS HA HB HT Hrows HO]
  · isplitr; · iexact HR
    isplitr; · iexact Hlev
    isplitl [HS]; · iexact HS
    isplitl [HA]; · iexact HA
    isplitl [HB]; · iexact HB
    isplitl [HT]; · iexact HT
    isplitl [Hrows]; · iexact Hrows
    iexact HO
  iintro ⟨HS, HA, HB, HD, Hrows, HO⟩
  iapply Hk
  isplitl [HS]; · iexact HS
  isplitl [HA HB]
  · isplitl [HA]; · iexact HA
    iexact HB
  isplitl [HD]; · iexact HD
  isplitl [Hrows] <;> iassumption

theorem rsAll_wp :
    iprop(Rec xs ws ∗ levAts L lv ∗ Scr c xs ws ∗ Cur c xs ws (gM false) (gM true) 0 ∗ (bigSep Finset.univ fun s => RsT c s)
        ∗ rowsIn (F := F) false (pos (nb false c)) 0 ∗ Ow (F := F) c (O c 2))
      ⊢ iprop(((Scr c xs ws ∗ Cur c xs ws (slotM false 6) (slotM true 6) 7 ∗ (bigSep Finset.univ fun s => RsD (F := F) c s)
          ∗ Ow (F := F) c (O c 16)) -∗ W c Q (axTail c))
        -∗ W c Q (rsTail c)) := by
  rw [seven, seven]
  unfold rsTail
  iintro ⟨#HR, #Hlev, HS, HC, ⟨HT0, HT1, HT2, HT3, HT4, HT5, HT6⟩, Hr, HO⟩ Hk
  iapply (rsStep_at c xs ws 0 2 rfl (Fin.ext (a := ⟨k0_dev3 c, k0_dev3_lt c⟩) (rsA_dev c).1) (Fin.ext (a := ⟨k0_dev4 c, k0_dev4_lt c⟩) (rsB_dev c).1) rfl rfl) $$ [HS HC HT0 Hr HO]
  · isplitr; · iexact HR
    isplitr; · iexact Hlev
    isplitl [HS]; · iexact HS
    isplitl [HC]; · iexact HC
    isplitl [HT0]; · iexact HT0
    isplitl [Hr]; · iexact Hr
    iexact HO
  iintro ⟨HS, HC, HD0, Hr, HO⟩
  iapply (rsStep_at c xs ws 1 4 rfl (Fin.ext (a := ⟨k0_dev5 c, k0_dev5_lt c⟩) (rsA_dev c).2.1) (Fin.ext (a := ⟨k0_dev6 c, k0_dev6_lt c⟩) (rsB_dev c).2.1) rfl rfl) $$ [HS HC HT1 Hr HO]
  · isplitr; · iexact HR
    isplitr; · iexact Hlev
    isplitl [HS]; · iexact HS
    isplitl [HC]; · iexact HC
    isplitl [HT1]; · iexact HT1
    isplitl [Hr]; · iexact Hr
    iexact HO
  iintro ⟨HS, HC, HD1, Hr, HO⟩
  iapply (rsStep_at c xs ws 2 6 rfl (Fin.ext (a := ⟨k0_dev7 c, k0_dev7_lt c⟩) (rsA_dev c).2.2.1) (Fin.ext (a := ⟨k0_dev8 c, k0_dev8_lt c⟩) (rsB_dev c).2.2.1) rfl rfl) $$ [HS HC HT2 Hr HO]
  · isplitr; · iexact HR
    isplitr; · iexact Hlev
    isplitl [HS]; · iexact HS
    isplitl [HC]; · iexact HC
    isplitl [HT2]; · iexact HT2
    isplitl [Hr]; · iexact Hr
    iexact HO
  iintro ⟨HS, HC, HD2, Hr, HO⟩
  iapply (rsStep_at c xs ws 3 8 rfl (Fin.ext (a := ⟨k0_dev9 c, k0_dev9_lt c⟩) (rsA_dev c).2.2.2.1) (Fin.ext (a := ⟨k0_dev10 c, k0_dev10_lt c⟩) (rsB_dev c).2.2.2.1) rfl rfl) $$ [HS HC HT3 Hr HO]
  · isplitr; · iexact HR
    isplitr; · iexact Hlev
    isplitl [HS]; · iexact HS
    isplitl [HC]; · iexact HC
    isplitl [HT3]; · iexact HT3
    isplitl [Hr]; · iexact Hr
    iexact HO
  iintro ⟨HS, HC, HD3, Hr, HO⟩
  iapply (rsStep_at c xs ws 4 10 rfl (Fin.ext (a := ⟨k0_dev11 c, k0_dev11_lt c⟩) (rsA_dev c).2.2.2.2.1) (Fin.ext (a := ⟨k0_dev12 c, k0_dev12_lt c⟩) (rsB_dev c).2.2.2.2.1) rfl rfl) $$ [HS HC HT4 Hr HO]
  · isplitr; · iexact HR
    isplitr; · iexact Hlev
    isplitl [HS]; · iexact HS
    isplitl [HC]; · iexact HC
    isplitl [HT4]; · iexact HT4
    isplitl [Hr]; · iexact Hr
    iexact HO
  iintro ⟨HS, HC, HD4, Hr, HO⟩
  iapply (rsStep_at c xs ws 5 12 rfl (Fin.ext (a := ⟨k0_dev13 c, k0_dev13_lt c⟩) (rsA_dev c).2.2.2.2.2.1) (Fin.ext (a := ⟨k0_dev14 c, k0_dev14_lt c⟩) (rsB_dev c).2.2.2.2.2.1) rfl rfl) $$ [HS HC HT5 Hr HO]
  · isplitr; · iexact HR
    isplitr; · iexact Hlev
    isplitl [HS]; · iexact HS
    isplitl [HC]; · iexact HC
    isplitl [HT5]; · iexact HT5
    isplitl [Hr]; · iexact Hr
    iexact HO
  iintro ⟨HS, HC, HD5, Hr, HO⟩
  iapply (rsStep_at c xs ws 6 14 rfl (Fin.ext (a := ⟨k0_dev15 c, k0_dev15_lt c⟩) (rsA_dev c).2.2.2.2.2.2) (Fin.ext (a := ⟨k0_dev16 c, k0_dev16_lt c⟩) (rsB_dev c).2.2.2.2.2.2) rfl rfl) $$ [HS HC HT6 Hr HO]
  · isplitr; · iexact HR
    isplitr; · iexact Hlev
    isplitl [HS]; · iexact HS
    isplitl [HC]; · iexact HC
    isplitl [HT6]; · iexact HT6
    isplitl [Hr]; · iexact Hr
    iexact HO
  iintro ⟨HS, HC, HD6, Hr, HO⟩
  iapply Hk
  isplitl [HS]; · iexact HS
  isplitl [HC]; · iexact HC
  isplitr [HO]
  · isplitl [HD0]; · iexact HD0
    isplitl [HD1]; · iexact HD1
    isplitl [HD2]; · iexact HD2
    isplitl [HD3]; · iexact HD3
    isplitl [HD4]; · iexact HD4
    isplitl [HD5] <;> iassumption
  iexact HO

/-! ## The maxima -/

/-- What send `s` of the maxima starts from; what wait `s` leaves. -/
def AxT (s : Fin 7) : sProp 𝕄 := iprop(some' (F := F) (peer s c) (rowD c) ∗ Ends (axK false) (axK true) s c)
def AxD (s : Fin 7) : sProp 𝕄 :=
  iprop((owns (c : Thread nD τ) axS (piece s.val) (axRow xs ws c) ∗ owns (c : Thread nD τ) (rowD (from' s c)) fullShare (axRow xs ws (from' s c)))
    ∗ Shut (F := F) (axK false) (axK true) s c)
/-- The source row's share after `n` sends, what is owed then. -/
def AxL (n : ℕ) : sProp 𝕄 := iprop(owns (c : Thread nD τ) axS (left n) (axRow xs ws c) ∗ Ow (F := F) c (O c (16 + n)))

theorem axSend_at (s : Fin 7) (n : ℕ) (hn : n = s.val) {dev : Dev nD} (hd : dev = peer s c) {k : Pg F} :
    iprop(Rec xs ws ∗ AxL c xs ws n ∗ AxT c s)
      ⊢ iprop(((AxL c xs ws (n + 1) ∗ Sent (axK false) (axK true) s c) -∗ W c Q k) -∗ W c Q (axSend c s dev k)) := by
  subst hn
  unfold AxL AxT
  iintro ⟨#HR, ⟨HS, HO⟩, Hd, HE⟩ Hk
  iapply (axSend_wp c xs ws s (16 + s.val) rfl hd) $$ [HS HO Hd HE]
  · isplitr; · iexact HR
    isplitl [HS]; · iexact HS
    isplitl [Hd]; · iexact Hd
    isplitl [HO] <;> iassumption
  iintro ⟨HS, HE, HO⟩
  iapply Hk
  isplitr [HE]
  · isplitl [HS] <;> iassumption
  iexact HE

theorem axWait_at (s : Fin 7) {k : Pg F} :
    iprop(Rec xs ws ∗ levAts L lv ∗ Sent (axK false) (axK true) s c ∗ Ow (F := F) c (O c 23))
      ⊢ iprop(((Ow (F := F) c (O c 23) ∗ AxD c xs ws s) -∗ W c Q k) -∗ W c Q (axWait c s k)) := by
  unfold AxD
  iintro ⟨#HR, #Hlev, HE, HO⟩ Hk
  iapply (axWait_wp c xs ws s) $$ [HE HO]
  · isplitr; · iexact HR
    isplitr; · iexact Hlev
    isplitl [HE]; · iexact HE
    iexact HO
  iintro ⟨HO, H1, H2, HZ⟩
  iapply Hk
  isplitl [HO]; · iexact HO
  isplitr [HZ]
  · isplitl [H1] <;> iassumption
  iexact HZ

theorem axAll_wp :
    iprop(Rec xs ws ∗ levAts L lv ∗ Cur c xs ws (slotM false 6) (slotM true 6) 7 ∗ some' (F := F) c axS ∗ some' (F := F) c (rowD c)
        ∗ (bigSep Finset.univ fun s => AxT c s) ∗ Ow (F := F) c (O c 16))
      ⊢ iprop(((Cur c xs ws (slotM false 6) (slotM true 6) 7 ∗ owns (c : Thread nD τ) axS (left 7) (axRow xs ws c)
          ∗ owns (c : Thread nD τ) (rowD c) fullShare (axRow xs ws c)
          ∗ (bigSep Finset.univ fun s => AxD c xs ws s) ∗ Ow (F := F) c (O c 23)) -∗ W c Q (quantTail c))
        -∗ W c Q (axTail c)) := by
  rw [seven, seven]
  unfold axTail Cur
  iintro ⟨#HR, #Hlev, ⟨HA, HB⟩, HaxS, Hown, ⟨HT0, HT1, HT2, HT3, HT4, HT5, HT6⟩, HO⟩ Hk
  iapply (axStore_wp c xs ws) $$ [HA HB HaxS Hown]
  · isplitl [HA]; · iexact HA
    isplitl [HB]; · iexact HB
    isplitl [HaxS]; · iexact HaxS
    iexact Hown
  iintro ⟨HA, HB, HaxS, Hown⟩
  iapply (axSend_at c xs ws 0 0 rfl (Fin.ext (a := ⟨k0_dev17 c, k0_dev17_lt c⟩) (ax_dev c).1)) $$ [HaxS HO HT0]
  · isplitr; · iexact HR
    isplitr [HT0]
    · unfold AxL; isplitl [HaxS]
      · unfold left; iexact HaxS
      · iexact HO
    iexact HT0
  iintro ⟨HL, HS0⟩
  iapply (axSend_at c xs ws 1 1 rfl (Fin.ext (a := ⟨k0_dev18 c, k0_dev18_lt c⟩) (ax_dev c).2.1)) $$ [HL HT1]
  · isplitr; · iexact HR
    isplitl [HL]; · iexact HL
    iexact HT1
  iintro ⟨HL, HS1⟩
  iapply (axSend_at c xs ws 2 2 rfl (Fin.ext (a := ⟨k0_dev19 c, k0_dev19_lt c⟩) (ax_dev c).2.2.1)) $$ [HL HT2]
  · isplitr; · iexact HR
    isplitl [HL]; · iexact HL
    iexact HT2
  iintro ⟨HL, HS2⟩
  iapply (axSend_at c xs ws 3 3 rfl (Fin.ext (a := ⟨k0_dev20 c, k0_dev20_lt c⟩) (ax_dev c).2.2.2.1)) $$ [HL HT3]
  · isplitr; · iexact HR
    isplitl [HL]; · iexact HL
    iexact HT3
  iintro ⟨HL, HS3⟩
  iapply (axSend_at c xs ws 4 4 rfl (Fin.ext (a := ⟨k0_dev21 c, k0_dev21_lt c⟩) (ax_dev c).2.2.2.2.1)) $$ [HL HT4]
  · isplitr; · iexact HR
    isplitl [HL]; · iexact HL
    iexact HT4
  iintro ⟨HL, HS4⟩
  iapply (axSend_at c xs ws 5 5 rfl (Fin.ext (a := ⟨k0_dev22 c, k0_dev22_lt c⟩) (ax_dev c).2.2.2.2.2.1)) $$ [HL HT5]
  · isplitr; · iexact HR
    isplitl [HL]; · iexact HL
    iexact HT5
  iintro ⟨HL, HS5⟩
  iapply (axSend_at c xs ws 6 6 rfl (Fin.ext (a := ⟨k0_dev23 c, k0_dev23_lt c⟩) (ax_dev c).2.2.2.2.2.2)) $$ [HL HT6]
  · isplitr; · iexact HR
    isplitl [HL]; · iexact HL
    iexact HT6
  iintro ⟨HL, HS6⟩
  ihave HL := (show AxL c xs ws (6 + 1) ⊢ iprop(owns (c : Thread nD τ) axS (left 7) (axRow xs ws c) ∗ Ow (F := F) c (O c 23)) from .rfl) $$ HL
  icases HL with ⟨HaxS, HO⟩
  iapply (axWait_at c xs ws 0) $$ [HS0 HO]
  · isplitr; · iexact HR
    isplitr; · iexact Hlev
    isplitl [HS0]; · iexact HS0
    iexact HO
  iintro ⟨HO, HD0⟩
  iapply (axWait_at c xs ws 1) $$ [HS1 HO]
  · isplitr; · iexact HR
    isplitr; · iexact Hlev
    isplitl [HS1]; · iexact HS1
    iexact HO
  iintro ⟨HO, HD1⟩
  iapply (axWait_at c xs ws 2) $$ [HS2 HO]
  · isplitr; · iexact HR
    isplitr; · iexact Hlev
    isplitl [HS2]; · iexact HS2
    iexact HO
  iintro ⟨HO, HD2⟩
  iapply (axWait_at c xs ws 3) $$ [HS3 HO]
  · isplitr; · iexact HR
    isplitr; · iexact Hlev
    isplitl [HS3]; · iexact HS3
    iexact HO
  iintro ⟨HO, HD3⟩
  iapply (axWait_at c xs ws 4) $$ [HS4 HO]
  · isplitr; · iexact HR
    isplitr; · iexact Hlev
    isplitl [HS4]; · iexact HS4
    iexact HO
  iintro ⟨HO, HD4⟩
  iapply (axWait_at c xs ws 5) $$ [HS5 HO]
  · isplitr; · iexact HR
    isplitr; · iexact Hlev
    isplitl [HS5]; · iexact HS5
    iexact HO
  iintro ⟨HO, HD5⟩
  iapply (axWait_at c xs ws 6) $$ [HS6 HO]
  · isplitr; · iexact HR
    isplitr; · iexact Hlev
    isplitl [HS6]; · iexact HS6
    iexact HO
  iintro ⟨HO, HD6⟩
  iapply Hk
  isplitl [HA HB]
  · isplitl [HA]; · iexact HA
    iexact HB
  isplitl [HaxS]; · iexact HaxS
  isplitl [Hown]; · iexact Hown
  isplitr [HO]
  · isplitl [HD0]; · iexact HD0
    isplitl [HD1]; · iexact HD1
    isplitl [HD2]; · iexact HD2
    isplitl [HD3]; · iexact HD3
    isplitl [HD4]; · iexact HD4
    isplitl [HD5] <;> iassumption
  iexact HO

/-! ## The all-gather -/

/-- Both sides' windows of step `t`, before and after; both copies of step `t` under way. -/
def WinT (t : ℕ) : sProp 𝕄 :=
  iprop(some' (F := F) c (winB false (agI false (pos c) t)) ∗ some' (F := F) c (winB true (agI true (pos c) t)))
def WinD (t : ℕ) : sProp 𝕄 := iprop(Win c xs ws false (agI false (pos c) t) ∗ Win c xs ws true (agI true (pos c) t))
def Flys (u : Fin 3) (t : ℕ) : sProp 𝕄 :=
  iprop(FlyB c xs ws false u (agI false (pos c) t) ∗ FlyB c xs ws true u (agI true (pos c) t))

theorem agOut_at (t : Fin 7) (n : ℕ) (hn : n = t.val + 1) (u : Fin 3) (q : PosShare TreeShare) {k : Pg F} :
    iprop(Blks c xs ws n q ∗ Idle (F := F) c u ∗ WinT (F := F) c n)
      ⊢ iprop(((Blks c xs ws n q ∗ Flys c xs ws u n) -∗ W c Q k) -∗ W c Q (agOut c t u (k0_pay42 (axFull xs ws)) k)) := by
  subst hn; exact agOut_wp c xs ws t u q
theorem landed_at (t : ℕ) (u : Fin 3) (n : ℕ) (hn : n < 38) {k : Pg F} :
    iprop(levAts L lv ∗ Flys c xs ws u t ∗ Ow (F := F) c (O c n))
      ⊢ iprop(((WinD c xs ws t ∗ Idle (F := F) c u ∗ Ow (F := F) c (O c n)) -∗ W c Q k) -∗ W c Q (stWait false u (stWait true u k))) := by
  unfold Flys WinD
  iintro ⟨#Hlev, ⟨HA, HB⟩, HO⟩ Hk
  iapply (landed_wp c xs ws _ _ u n hn) $$ [HA HB HO]
  · isplitr; · iexact Hlev
    isplitl [HA]; · iexact HA
    isplitl [HB]; · iexact HB
    iexact HO
  iintro ⟨HA, HB, HI, HO⟩
  iapply Hk
  isplitl [HA HB]
  · isplitl [HA]; · iexact HA
    iexact HB
  isplitl [HI] <;> iassumption
theorem agSend_at (t : Fin 7) (m n : ℕ) (hm : m = t.val) (hn : n = 23 + 2 * t.val) {dA dB : Dev nD} (hdA : dA = nb false c) (hdB : dB = nb true c) {k : Pg F} :
    iprop(Rec xs ws ∗ Blks c xs ws m fullShare ∗ AgT c t ∗ Ow (F := F) c (O c n))
      ⊢ iprop(((Blks c xs ws m fullShare.right ∗ AgS c t ∗ Ow (F := F) c (O c (n + 2))) -∗ W c Q k)
        -∗ W c Q (agSend c t dA dB k)) := by
  subst hm; exact agSend_wp c xs ws t n hn hdA hdB
theorem agWait_at (t : Fin 7) (m n : ℕ) (hm : m = t.val) (hn : n = 25 + 2 * t.val) {k : Pg F} :
    iprop(Rec xs ws ∗ levAts L lv ∗ Blks c xs ws m fullShare.right ∗ AgS c t ∗ Ow (F := F) c (O c n))
      ⊢ iprop(((Blks c xs ws m fullShare ∗ Blks c xs ws (m + 1) fullShare ∗ AgD (F := F) c t ∗ Ow (F := F) c (O c n)) -∗ W c Q k)
        -∗ W c Q (agWait c t k)) := by
  subst hm; exact agWait_wp c xs ws t n hn

theorem agAll_wp :
    iprop(Rec xs ws ∗ levAts L lv ∗ Blks c xs ws 0 fullShare ∗ Flys c xs ws 2 0 ∗ Idle (F := F) c 0 ∗ Idle (F := F) c 1
        ∗ (bigSep Finset.univ fun t => AgT c t) ∗ (bigSep Finset.univ fun t : Fin 7 => WinT (F := F) c (t.val + 1)) ∗ Ow (F := F) c (O c 23))
      ⊢ iprop((((bigSep Finset.univ fun t : Fin 8 => Blks c xs ws t.val fullShare) ∗ (bigSep Finset.univ fun t : Fin 8 => WinD c xs ws t.val)
          ∗ (Idle (F := F) c 0 ∗ Idle (F := F) c 1 ∗ Idle (F := F) c 2) ∗ (bigSep Finset.univ fun t => AgD (F := F) c t) ∗ Ow (F := F) c (O c 37)) -∗ W c Q (.ret ⟨⟩))
        -∗ W c Q (agTail c (k0_pay42 (axFull xs ws)))) := by
  rw [seven, seven, seven, eight, eight]
  unfold agTail
  iintro ⟨#HR, #Hlev, HB0, HF2, HI0, HI1, ⟨HT0, HT1, HT2, HT3, HT4, HT5, HT6⟩, ⟨HW1, HW2, HW3, HW4, HW5, HW6, HW7⟩, HO⟩ Hk
  iapply (agSend_at c xs ws 0 0 23 rfl rfl (Fin.ext (a := ⟨k0_dev24 c, k0_dev24_lt c⟩) (agA_dev c).1) (Fin.ext (a := ⟨k0_dev25 c, k0_dev25_lt c⟩) (agB_dev c).1)) $$ [HB0 HT0 HO]
  · isplitr; · iexact HR
    isplitl [HB0]; · iexact HB0
    isplitl [HT0]; · iexact HT0
    iexact HO
  iintro ⟨HB0, HS0, HO⟩
  iapply (agWait_at c xs ws 0 0 25 rfl rfl) $$ [HB0 HS0 HO]
  · isplitr; · iexact HR
    isplitr; · iexact Hlev
    isplitl [HB0]; · iexact HB0
    isplitl [HS0]; · iexact HS0
    iexact HO
  iintro ⟨HB0, HB1, HD0, HO⟩
  iapply (agSend_at c xs ws 1 1 25 rfl rfl (Fin.ext (a := ⟨k0_dev26 c, k0_dev26_lt c⟩) (agA_dev c).2.1) (Fin.ext (a := ⟨k0_dev27 c, k0_dev27_lt c⟩) (agB_dev c).2.1)) $$ [HB1 HT1 HO]
  · isplitr; · iexact HR
    isplitl [HB1]; · iexact HB1
    isplitl [HT1]; · iexact HT1
    iexact HO
  iintro ⟨HB1, HS1, HO⟩
  iapply (agOut_at c xs ws 0 1 rfl 0 fullShare.right) $$ [HB1 HI0 HW1]
  · isplitl [HB1]; · iexact HB1
    isplitl [HI0]; · iexact HI0
    iexact HW1
  iintro ⟨HB1, HF0⟩
  iapply (agWait_at c xs ws 1 1 27 rfl rfl) $$ [HB1 HS1 HO]
  · isplitr; · iexact HR
    isplitr; · iexact Hlev
    isplitl [HB1]; · iexact HB1
    isplitl [HS1]; · iexact HS1
    iexact HO
  iintro ⟨HB1, HB2, HD1, HO⟩
  iapply (agSend_at c xs ws 2 2 27 rfl rfl (Fin.ext (a := ⟨k0_dev28 c, k0_dev28_lt c⟩) (agA_dev c).2.2.1) (Fin.ext (a := ⟨k0_dev29 c, k0_dev29_lt c⟩) (agB_dev c).2.2.1)) $$ [HB2 HT2 HO]
  · isplitr; · iexact HR
    isplitl [HB2]; · iexact HB2
    isplitl [HT2]; · iexact HT2
    iexact HO
  iintro ⟨HB2, HS2, HO⟩
  iapply (agOut_at c xs ws 1 2 rfl 1 fullShare.right) $$ [HB2 HI1 HW2]
  · isplitl [HB2]; · iexact HB2
    isplitl [HI1]; · iexact HI1
    iexact HW2
  iintro ⟨HB2, HF1⟩
  iapply (agWait_at c xs ws 2 2 29 rfl rfl) $$ [HB2 HS2 HO]
  · isplitr; · iexact HR
    isplitr; · iexact Hlev
    isplitl [HB2]; · iexact HB2
    isplitl [HS2]; · iexact HS2
    iexact HO
  iintro ⟨HB2, HB3, HD2, HO⟩
  iapply (agSend_at c xs ws 3 3 29 rfl rfl (Fin.ext (a := ⟨k0_dev30 c, k0_dev30_lt c⟩) (agA_dev c).2.2.2.1) (Fin.ext (a := ⟨k0_dev31 c, k0_dev31_lt c⟩) (agB_dev c).2.2.2.1)) $$ [HB3 HT3 HO]
  · isplitr; · iexact HR
    isplitl [HB3]; · iexact HB3
    isplitl [HT3]; · iexact HT3
    iexact HO
  iintro ⟨HB3, HS3, HO⟩
  iapply (landed_at c xs ws 1 0 31 (by decide)) $$ [HF0 HO]
  · isplitr; · iexact Hlev
    isplitl [HF0]; · iexact HF0
    iexact HO
  iintro ⟨HW1, HI0, HO⟩
  iapply (agOut_at c xs ws 2 3 rfl 0 fullShare.right) $$ [HB3 HI0 HW3]
  · isplitl [HB3]; · iexact HB3
    isplitl [HI0]; · iexact HI0
    iexact HW3
  iintro ⟨HB3, HF0⟩
  iapply (agWait_at c xs ws 3 3 31 rfl rfl) $$ [HB3 HS3 HO]
  · isplitr; · iexact HR
    isplitr; · iexact Hlev
    isplitl [HB3]; · iexact HB3
    isplitl [HS3]; · iexact HS3
    iexact HO
  iintro ⟨HB3, HB4, HD3, HO⟩
  iapply (agSend_at c xs ws 4 4 31 rfl rfl (Fin.ext (a := ⟨k0_dev32 c, k0_dev32_lt c⟩) (agA_dev c).2.2.2.2.1) (Fin.ext (a := ⟨k0_dev33 c, k0_dev33_lt c⟩) (agB_dev c).2.2.2.2.1)) $$ [HB4 HT4 HO]
  · isplitr; · iexact HR
    isplitl [HB4]; · iexact HB4
    isplitl [HT4]; · iexact HT4
    iexact HO
  iintro ⟨HB4, HS4, HO⟩
  iapply (landed_at c xs ws 2 1 33 (by decide)) $$ [HF1 HO]
  · isplitr; · iexact Hlev
    isplitl [HF1]; · iexact HF1
    iexact HO
  iintro ⟨HW2, HI1, HO⟩
  iapply (agOut_at c xs ws 3 4 rfl 1 fullShare.right) $$ [HB4 HI1 HW4]
  · isplitl [HB4]; · iexact HB4
    isplitl [HI1]; · iexact HI1
    iexact HW4
  iintro ⟨HB4, HF1⟩
  iapply (agWait_at c xs ws 4 4 33 rfl rfl) $$ [HB4 HS4 HO]
  · isplitr; · iexact HR
    isplitr; · iexact Hlev
    isplitl [HB4]; · iexact HB4
    isplitl [HS4]; · iexact HS4
    iexact HO
  iintro ⟨HB4, HB5, HD4, HO⟩
  iapply (agSend_at c xs ws 5 5 33 rfl rfl (Fin.ext (a := ⟨k0_dev34 c, k0_dev34_lt c⟩) (agA_dev c).2.2.2.2.2.1) (Fin.ext (a := ⟨k0_dev35 c, k0_dev35_lt c⟩) (agB_dev c).2.2.2.2.2.1)) $$ [HB5 HT5 HO]
  · isplitr; · iexact HR
    isplitl [HB5]; · iexact HB5
    isplitl [HT5]; · iexact HT5
    iexact HO
  iintro ⟨HB5, HS5, HO⟩
  iapply (landed_at c xs ws 3 0 35 (by decide)) $$ [HF0 HO]
  · isplitr; · iexact Hlev
    isplitl [HF0]; · iexact HF0
    iexact HO
  iintro ⟨HW3, HI0, HO⟩
  iapply (agOut_at c xs ws 4 5 rfl 0 fullShare.right) $$ [HB5 HI0 HW5]
  · isplitl [HB5]; · iexact HB5
    isplitl [HI0]; · iexact HI0
    iexact HW5
  iintro ⟨HB5, HF0⟩
  iapply (agWait_at c xs ws 5 5 35 rfl rfl) $$ [HB5 HS5 HO]
  · isplitr; · iexact HR
    isplitr; · iexact Hlev
    isplitl [HB5]; · iexact HB5
    isplitl [HS5]; · iexact HS5
    iexact HO
  iintro ⟨HB5, HB6, HD5, HO⟩
  iapply (agSend_at c xs ws 6 6 35 rfl rfl (Fin.ext (a := ⟨k0_dev36 c, k0_dev36_lt c⟩) (agA_dev c).2.2.2.2.2.2) (Fin.ext (a := ⟨k0_dev37 c, k0_dev37_lt c⟩) (agB_dev c).2.2.2.2.2.2)) $$ [HB6 HT6 HO]
  · isplitr; · iexact HR
    isplitl [HB6]; · iexact HB6
    isplitl [HT6]; · iexact HT6
    iexact HO
  iintro ⟨HB6, HS6, HO⟩
  iapply (landed_at c xs ws 4 1 37 (by decide)) $$ [HF1 HO]
  · isplitr; · iexact Hlev
    isplitl [HF1]; · iexact HF1
    iexact HO
  iintro ⟨HW4, HI1, HO⟩
  iapply (agOut_at c xs ws 5 6 rfl 1 fullShare.right) $$ [HB6 HI1 HW6]
  · isplitl [HB6]; · iexact HB6
    isplitl [HI1]; · iexact HI1
    iexact HW6
  iintro ⟨HB6, HF1⟩
  iapply (agWait_at c xs ws 6 6 37 rfl rfl) $$ [HB6 HS6 HO]
  · isplitr; · iexact HR
    isplitr; · iexact Hlev
    isplitl [HB6]; · iexact HB6
    isplitl [HS6]; · iexact HS6
    iexact HO
  iintro ⟨HB6, HB7, HD6, HO⟩
  iapply (landed_at c xs ws 5 0 37 (by decide)) $$ [HF0 HO]
  · isplitr; · iexact Hlev
    isplitl [HF0]; · iexact HF0
    iexact HO
  iintro ⟨HW5, HI0, HO⟩
  iapply (agOut_at c xs ws 6 7 rfl 0 fullShare) $$ [HB7 HI0 HW7]
  · isplitl [HB7]; · iexact HB7
    isplitl [HI0]; · iexact HI0
    iexact HW7
  iintro ⟨HB7, HF0⟩
  iapply (landed_at c xs ws 7 0 37 (by decide)) $$ [HF0 HO]
  · isplitr; · iexact Hlev
    isplitl [HF0]; · iexact HF0
    iexact HO
  iintro ⟨HW7, HI0, HO⟩
  iapply (landed_at c xs ws 6 1 37 (by decide)) $$ [HF1 HO]
  · isplitr; · iexact Hlev
    isplitl [HF1]; · iexact HF1
    iexact HO
  iintro ⟨HW6, HI1, HO⟩
  iapply (landed_at c xs ws 0 2 37 (by decide)) $$ [HF2 HO]
  · isplitr; · iexact Hlev
    isplitl [HF2]; · iexact HF2
    iexact HO
  iintro ⟨HW0, HI2, HO⟩
  iapply Hk
  isplitl [HB0 HB1 HB2 HB3 HB4 HB5 HB6 HB7]
  · isplitl [HB0]; · iexact HB0
    isplitl [HB1]; · iexact HB1
    isplitl [HB2]; · iexact HB2
    isplitl [HB3]; · iexact HB3
    isplitl [HB4]; · iexact HB4
    isplitl [HB5]; · iexact HB5
    isplitl [HB6]; · iexact HB6
    iexact HB7
  isplitl [HW0 HW1 HW2 HW3 HW4 HW5 HW6 HW7]
  · isplitl [HW0]; · iexact HW0
    isplitl [HW1]; · iexact HW1
    isplitl [HW2]; · iexact HW2
    isplitl [HW3]; · iexact HW3
    isplitl [HW4]; · iexact HW4
    isplitl [HW5]; · iexact HW5
    isplitl [HW6]; · iexact HW6
    iexact HW7
  isplitl [HI0 HI1 HI2]
  · isplitl [HI0]; · iexact HI0
    isplitl [HI1]; · iexact HI1
    iexact HI2
  isplitr [HO]
  · isplitl [HD0]; · iexact HD0
    isplitl [HD1]; · iexact HD1
    isplitl [HD2]; · iexact HD2
    isplitl [HD3]; · iexact HD3
    isplitl [HD4]; · iexact HD4
    isplitl [HD5] <;> iassumption
  iexact HO

theorem quantAll_wp :
    iprop(Rec xs ws ∗ levAts L lv ∗ owns (c : Thread nD τ) axB fullShare (axFull xs ws) ∗ Cur c xs ws (slotM false 6) (slotM true 6) 7
        ∗ (some' (F := F) c (qB false (agI false (pos c) 0)) ∗ some' (F := F) c (qB true (agI true (pos c) 0))) ∗ WinT (F := F) c 0
        ∗ (Idle (F := F) c 0 ∗ Idle (F := F) c 1 ∗ Idle (F := F) c 2)
        ∗ (bigSep Finset.univ fun t => AgT c t) ∗ (bigSep Finset.univ fun t : Fin 7 => WinT (F := F) c (t.val + 1)) ∗ Ow (F := F) c (O c 23))
      ⊢ iprop(((owns (c : Thread nD τ) axB fullShare (axFull xs ws) ∗ Cur c xs ws (slotM false 6) (slotM true 6) 7
          ∗ (bigSep Finset.univ fun t : Fin 8 => Blks c xs ws t.val fullShare) ∗ (bigSep Finset.univ fun t : Fin 8 => WinD c xs ws t.val)
          ∗ (Idle (F := F) c 0 ∗ Idle (F := F) c 1 ∗ Idle (F := F) c 2) ∗ (bigSep Finset.univ fun t => AgD (F := F) c t) ∗ Ow (F := F) c (O c 37)) -∗ Q ⟨⟩)
        -∗ W c Q (quantTail c)) := by
  unfold quantTail Cur
  iintro ⟨#HR, #Hlev, Hax, ⟨HA, HB⟩, ⟨HqA, HqB⟩, HW0, ⟨HI0, HI1, HI2⟩, HT, HWs, HO⟩ Hk
  iapply (load_all c axB fullShare (axFull xs ws) off00 _) $$ Hax
  iintro Hax
  iapply (quant_wp c xs ws false (off6_own c)) $$ [HA HqA]
  · isplitl [HA]; · iexact HA
    iexact HqA
  iintro ⟨HA, HqA⟩
  iapply (quant_wp c xs ws true (off7_own c)) $$ [HB HqB]
  · isplitl [HB]; · iexact HB
    iexact HqB
  iintro ⟨HB, HqB⟩
  unfold WinT
  icases HW0 with ⟨HwA, HwB⟩
  iapply (out_wp c xs ws (agI false (pos c) 0) (agI true (pos c) 0) 2 fullShare (off6_own c) (off7_own c) (off8_eq c) (off9_eq c)) $$ [HqA HqB HI2 HwA HwB]
  · isplitl [HqA HqB]
    · isplitl [HqA]; · iexact HqA
      iexact HqB
    isplitl [HI2]; · iexact HI2
    isplitl [HwA] <;> iassumption
  iintro ⟨Hq, HF⟩
  iapply (agAll_wp c xs ws) $$ [Hq HF HI0 HI1 HT HWs HO]
  · isplitr; · iexact HR
    isplitr; · iexact Hlev
    isplitl [Hq]; · unfold Blks; iexact Hq
    isplitl [HF]; · unfold Flys; iexact HF
    isplitl [HI0]; · iexact HI0
    isplitl [HI1]; · iexact HI1
    isplitl [HT]; · iexact HT
    isplitl [HWs]; · unfold WinT; iexact HWs
    iexact HO
  iintro HE
  unfold W
  rw [wp_ret]; imodintro
  iapply Hk
  isplitl [Hax]; · iexact Hax
  isplitl [HA HB]
  · isplitl [HA]; · iexact HA
    iexact HB
  iexact HE

end Cert.KernelIdeal.Ring

end
-- ==== Proof.Parts.lean ====
/- The buffers cut into the parts the protocol names, and put together again: a chunk buffer into seven slots, a quantised
   buffer into eight blocks, the maxima's buffer into eight rows, the output into sixteen windows. -/
module

public import proofs.«01_k».proof.Proof.Body

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (c : Dev nD) {Q : PUnit.{1} → sProp (MT nD τ sig Unit (Elt F) ℕ UU ℕ)}
variable (xs : Dev nD → (cc0_stg0_0 : Ref sig .tc).ty.Contents (Elt F)) (ws : Dev nD → (cc0_stg1_0 : Ref sig .tc).ty.Contents (Elt F))

/-- Every kind of element has a value. -/
instance elt_nonempty (e : EltTy) : Nonempty (Elt F e) := by
  cases e <;> first | exact ⟨(0 : BitVec _)⟩ | exact ⟨FloatOps.ofBits _ 0⟩

/-! ## A part at some contents -/

section Some
variable {sp : Space} {s : Shape} {e : EltTy} (m : Memref sig .tc sp s e)

omit [FloatOps F] in
theorem some_intro {X : s.Idx → Elt F e} : (owns (c : Thread nD τ) m fullShare X : sProp 𝕄) ⊢ some' c m := by
  unfold some'; iintro H; iexists X; iexact H

omit [FloatOps F] in
theorem some_pts : (some' (F := F) c m) ⊣⊢ iprop(∃ f, m.view.loc (c : Thread nD τ) ↦[m.view.set]{fullShare} f) := by
  constructor
  · unfold some' owns
    iintro ⟨%X, %f, %hf, H⟩; iexists f; iexact H
  · iintro ⟨%f, H⟩
    iapply ((owns_intro (c : Thread nD τ) m fullShare f).trans (some_intro (F := F) c m (X := m.view.read (Elt F) f))) $$ H

omit [FloatOps F] in
theorem some_squeeze (r : Rect s) (hr : ∀ a, r.stride a = 1) {s' : Shape} (hq : r.shape.Squeezes s') :
    (some' (F := F) c (m.slice r hr)) ⊣⊢ some' (F := F) c ((m.slice r hr).squeeze s' hq) := by
  have e : iprop(∃ f, (m.slice r hr).view.loc (c : Thread nD τ) ↦[(m.slice r hr).view.set]{fullShare} f)
      = (iprop(∃ f, ((m.slice r hr).squeeze s' hq).view.loc (c : Thread nD τ) ↦[((m.slice r hr).squeeze s' hq).view.set]{fullShare} f) : sProp 𝕄) := by
    rw [show ((m.slice r hr).squeeze s' hq).view.set = (m.slice r hr).view.set from View.set_reshape _ _]
  exact ⟨(some_pts c _).1.trans ((Entails.of_eq e).trans (some_pts c _).2), (some_pts c _).1.trans ((Entails.of_eq e.symm).trans (some_pts c _).2)⟩

variable {T : Type} [Fintype T] [DecidableEq T] (r : T → Rect s) (hr : ∀ t a, (r t).stride a = 1)
  (hd : ∀ t t', t ≠ t' → Disjoint (r t).set (r t').set)
  (hcov : (Finset.univ : Finset T).biUnion (fun t => (r t).set) = Finset.univ)
include hd hcov

theorem some_rects : (some' (F := F) c m) ⊣⊢ bigSep Finset.univ fun t => some' (F := F) c (m.slice (r t) (hr t)) := by
  constructor
  · unfold some'
    iintro ⟨%X, H⟩
    iapply (show (owns (c : Thread nD τ) m fullShare X : sProp 𝕄) ⊢ bigSep Finset.univ fun t => some' (F := F) c (m.slice (r t) (hr t)) from
      (owns_rects (c : Thread nD τ) m fullShare r hr hd hcov X).trans (bigSep_mono fun t _ => some_intro c _)) $$ H
  · refine (bigSep_mono fun t _ => (ownsSat_true (c : Thread nD τ) (m.slice (r t) (hr t)) fullShare).2).trans ?_
    refine (ownsSat_of_rects (c : Thread nD τ) m fullShare r hr hd hcov (fun _ _ => True)).trans ?_
    exact (ownsSat_mono (c : Thread nD τ) m fullShare (fun _ _ => trivial)).trans (ownsSat_true (c : Thread nD τ) m fullShare).1

end Some

/-! ## The four cuts -/

theorem slots_disj (s s' : Fin 7) (h : s ≠ s') : Disjoint (slotR s).set (slotR s').set :=
  Rect.unit_disjoint 0 (by
    have : s.val ≠ s'.val := fun e => h (Fin.ext e)
    show s.val + 1 ≤ s'.val ∨ s'.val + 1 ≤ s.val; omega)
theorem slots_cov : (Finset.univ : Finset (Fin 7)).biUnion (fun s => (slotR s).set) = Finset.univ := by
  ext i
  simp only [Finset.mem_biUnion, Finset.mem_univ, true_and, iff_true]
  refine ⟨i 0, Rect.mem_set_unit.mpr fun a => ?_⟩
  fin_cases a
  · exact ⟨le_refl _, Nat.lt_succ_self _⟩
  · exact ⟨Nat.zero_le _, by simpa using (i 1).isLt⟩
  · exact ⟨Nat.zero_le _, by simpa using (i 2).isLt⟩

theorem blks_disj (s s' : Fin 8) (h : s ≠ s') : Disjoint (blkR ![s.val, 0, 0] (qin s)).set (blkR ![s'.val, 0, 0] (qin s')).set :=
  Rect.unit_disjoint 0 (by
    have : s.val ≠ s'.val := fun e => h (Fin.ext e)
    show s.val + 1 ≤ s'.val ∨ s'.val + 1 ≤ s.val; omega)
theorem blks_cov : (Finset.univ : Finset (Fin 8)).biUnion (fun s => (blkR ![s.val, 0, 0] (qin s)).set) = Finset.univ := by
  ext i
  simp only [Finset.mem_biUnion, Finset.mem_univ, true_and, iff_true]
  refine ⟨i 0, Rect.mem_set_unit.mpr fun a => ?_⟩
  fin_cases a
  · exact ⟨le_refl _, Nat.lt_succ_self _⟩
  · exact ⟨Nat.zero_le _, by simpa using (i 1).isLt⟩
  · exact ⟨Nat.zero_le _, by simpa using (i 2).isLt⟩

abbrev rowR (d : Dev nD) : Rect S8x128 := Rect.unit (s := S8x128) ![d.val, 0] S1x128.size (rin d)
theorem rows_disj (s s' : Dev nD) (h : s ≠ s') : Disjoint (rowR s).set (rowR s').set :=
  Rect.unit_disjoint 0 (by
    have : s.val ≠ s'.val := fun e => h (Fin.ext e)
    show s.val + 1 ≤ s'.val ∨ s'.val + 1 ≤ s.val; omega)
theorem rows_cov : (Finset.univ : Finset (Dev nD)).biUnion (fun s => (rowR s).set) = Finset.univ := by
  ext i
  simp only [Finset.mem_biUnion, Finset.mem_univ, true_and, iff_true]
  refine ⟨i 0, Rect.mem_set_unit.mpr fun a => ?_⟩
  fin_cases a
  · exact ⟨le_refl _, Nat.lt_succ_self _⟩
  · exact ⟨Nat.zero_le _, by simpa using (i 1).isLt⟩

abbrev winR (bg : Bool × Fin 8) : Rect S4096x2048 := Rect.unit (s := S4096x2048) ![512 * bg.2.val, colO bg.1] S512x1024.size (win_inb bg.1 bg.2)
theorem wins_disj (s s' : Bool × Fin 8) (h : s ≠ s') : Disjoint (winR s).set (winR s').set := by
  obtain ⟨b, g⟩ := s
  obtain ⟨b', g'⟩ := s'
  by_cases hg : g = g'
  · subst hg
    refine Rect.unit_disjoint 1 ?_
    show colO b + 1024 ≤ colO b' ∨ colO b' + 1024 ≤ colO b
    cases b <;> cases b' <;> first | exact absurd rfl h | decide
  · refine Rect.unit_disjoint 0 ?_
    have : g.val ≠ g'.val := fun e => hg (Fin.ext e)
    show 512 * g.val + 512 ≤ 512 * g'.val ∨ 512 * g'.val + 512 ≤ 512 * g.val; omega
theorem wins_cov : (Finset.univ : Finset (Bool × Fin 8)).biUnion (fun s => (winR s).set) = Finset.univ := by
  ext i
  simp only [Finset.mem_biUnion, Finset.mem_univ, true_and, iff_true]
  have h0 : (i 0).val < 4096 := (i 0).isLt
  have h1 : (i 1).val < 2048 := (i 1).isLt
  refine ⟨(decide (1024 ≤ (i 1).val), ⟨(i 0).val / 512, by omega⟩), Rect.mem_set_unit.mpr fun a => ?_⟩
  fin_cases a
  · show 512 * ((i 0).val / 512) ≤ (i 0).val ∧ (i 0).val < 512 * ((i 0).val / 512) + 512; omega
  · show colO (decide (1024 ≤ (i 1).val)) ≤ (i 1).val ∧ (i 1).val < colO (decide (1024 ≤ (i 1).val)) + 1024
    by_cases h : 1024 ≤ (i 1).val
    · rw [decide_eq_true h]; exact ⟨h, by unfold colO; omega⟩
    · rw [decide_eq_false h]; exact ⟨Nat.zero_le _, by unfold colO; omega⟩

theorem slots_cut (b : Bool) : some' (F := F) c (cM b) ⊣⊢ bigSep Finset.univ fun s : Fin 7 => some' (F := F) c (slotM b s) := by
  have h := some_rects (F := F) c (cM b) slotR (fun _ _ => rfl) slots_disj slots_cov
  exact ⟨h.1.trans (bigSep_mono fun s _ => (some_squeeze c (cM b) (slotR s) (fun _ => rfl) squeezes_S1x512x1024_S512x1024).1),
    (bigSep_mono fun s _ => (some_squeeze c (cM b) (slotR s) (fun _ => rfl) squeezes_S1x512x1024_S512x1024).2).trans h.2⟩
theorem blks_cut (b : Bool) : some' (F := F) c (qM b) ⊣⊢ bigSep Finset.univ fun g : Fin 8 => some' (F := F) c (qB b g) := by
  have h := some_rects (F := F) c (qM b) (fun s : Fin 8 => blkR ![s.val, 0, 0] (qin s)) (fun _ _ => rfl) blks_disj blks_cov
  exact ⟨h.1.trans (bigSep_mono fun s _ => (some_squeeze c (qM b) (blkR ![s.val, 0, 0] (qin s)) (fun _ => rfl) squeezes_S1x512x1024_S512x1024).1),
    (bigSep_mono fun s _ => (some_squeeze c (qM b) (blkR ![s.val, 0, 0] (qin s)) (fun _ => rfl) squeezes_S1x512x1024_S512x1024).2).trans h.2⟩
theorem rows_cut : some' (F := F) c axB ⊣⊢ bigSep Finset.univ fun d : Dev nD => some' (F := F) c (rowD d) :=
  some_rects (F := F) c axB rowR (fun _ _ => rfl) rows_disj rows_cov
theorem wins_cut : some' (F := F) c outM ⊣⊢ bigSep Finset.univ fun bg : Bool × Fin 8 => some' (F := F) c (winB bg.1 bg.2) :=
  some_rects (F := F) c outM winR (fun _ _ => rfl) wins_disj wins_cov

/-- Every row in place is the whole buffer of maxima. -/
theorem rows_join : (bigSep Finset.univ fun d : Dev nD => (owns (c : Thread nD τ) (rowD d) fullShare (axRow xs ws d) : sProp 𝕄))
    ⊢ owns (c : Thread nD τ) axB fullShare (axFull xs ws) := by
  refine BIBase.Entails.trans (BIBase.Entails.of_eq (congrArg (bigSep Finset.univ) (funext fun d => ?_))) (owns_of_rects (c : Thread nD τ) axB fullShare rowR (fun _ _ => rfl) rows_disj rows_cov (axFull xs ws))
  refine congrArg (fun X => (owns (c : Thread nD τ) (rowD d) fullShare X : sProp 𝕄)) (funext fun j => ?_)
  unfold axFull
  have e0 : ((rowR d).emb j) 0 = d := Fin.ext (by
    show d.val + 1 * (j 0).val = d.val
    have : (j 0).val < 1 := (j 0).isLt
    omega)
  rw [e0]
  refine congrArg (axRow xs ws d) (funext fun a => ?_)
  fin_cases a
  · exact Subsingleton.elim (α := Fin 1) _ _
  · exact Fin.ext (by show (j 1).val = 0 + 1 * (j 1).val; omega)

/-- What the whole output ends as. -/
def outAll : S4096x2048.Idx → Elt F .f32 := fun i =>
  outv xs ws (decide (1024 ≤ (i 1).val)) ⟨(i 0).val / 512, by have : (i 0).val < 4096 := (i 0).isLt; omega⟩
    (ix2 (⟨(i 0).val % 512, Nat.mod_lt _ (by decide)⟩ : Fin 512) (⟨(i 1).val % 1024, Nat.mod_lt _ (by decide)⟩ : Fin 1024))

theorem wins_join : (bigSep Finset.univ fun bg : Bool × Fin 8 => Win c xs ws bg.1 bg.2)
    ⊢ owns (c : Thread nD τ) outM fullShare (outAll xs ws) := by
  unfold Win
  refine BIBase.Entails.trans (BIBase.Entails.of_eq (congrArg (bigSep Finset.univ) (funext fun d => ?_))) (owns_of_rects (c : Thread nD τ) outM fullShare winR (fun _ _ => rfl) wins_disj wins_cov (outAll xs ws))
  obtain ⟨b, g⟩ := d
  refine congrArg (fun X => (owns (c : Thread nD τ) (winB b g) fullShare X : sProp 𝕄)) (funext fun j => ?_)
  unfold outAll
  have j0 : (j 0).val < 512 := (j 0).isLt
  have j1 : (j 1).val < 1024 := (j 1).isLt
  have e0 : (((winR (b, g)).emb j) 0).val = 512 * g.val + (j 0).val := by show 512 * g.val + 1 * (j 0).val = _; omega
  have e1 : (((winR (b, g)).emb j) 1).val = colO b + (j 1).val := by show colO b + 1 * (j 1).val = _; omega
  simp only [e0, e1]
  have hb : decide (1024 ≤ colO b + (j 1).val) = b := by
    cases b
    · exact decide_eq_false (by show ¬ 1024 ≤ 0 + (j 1).val; omega)
    · exact decide_eq_true (by show 1024 ≤ 1024 + (j 1).val; omega)
  have hg : (⟨(512 * g.val + (j 0).val) / 512, by have := g.isLt; omega⟩ : Fin 8) = g := Fin.ext (by show (512 * g.val + (j 0).val) / 512 = g.val; omega)
  rw [hb, hg]
  refine congrArg (outv xs ws b g) (funext fun a => ?_)
  fin_cases a
  · exact Fin.ext (by show (j 0).val = (512 * g.val + (j 0).val) % 512; omega)
  · exact Fin.ext (by
      show (j 1).val = (colO b + (j 1).val) % 1024
      clear e1 hb hg
      cases b
      · show (j 1).val = (0 + (j 1).val) % 1024; omega
      · show (j 1).val = (1024 + (j 1).val) % 1024; omega)

end Cert.KernelIdeal.Ring

end
-- ==== Proof.Whole.lean ====
/- One device's whole body: what it starts from, what it ends with. -/
module

public import proofs.«01_k».proof.Proof.Parts

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (c : Dev nD) {Q : PUnit.{1} → sProp (MT nD τ sig Unit (Elt F) ℕ UU ℕ)}
variable (xs : Dev nD → (cc0_stg0_0 : Ref sig .tc).ty.Contents (Elt F)) (ws : Dev nD → (cc0_stg1_0 : Ref sig .tc).ty.Contents (Elt F))

/-! ## Sums over places and devices -/

omit [FloatOps F] in
theorem first_rest (f : ℕ → sProp 𝕄) : (bigSep Finset.univ fun t : Fin 8 => f t.val) = iprop(f 0 ∗ bigSep Finset.univ fun t : Fin 7 => f (t.val + 1)) := by
  rw [eight, seven]; rfl

omit [FloatOps F] in
/-- All devices: one, and seven others. -/
theorem rest_eq (g : Fin 7 → Dev nD) (h : Finset.univ.erase c = ([g 0, g 1, g 2, g 3, g 4, g 5, g 6] : List (Dev nD)).toFinset)
    (hn : ([g 0, g 1, g 2, g 3, g 4, g 5, g 6] : List (Dev nD)).Nodup) (f : Dev nD → sProp 𝕄) :
    bigSep (Finset.univ.erase c) f = bigSep Finset.univ fun s : Fin 7 => f (g s) := by
  rw [bigSep_eq_bigSepL_of_eq _ h hn, seven]; rfl
omit [FloatOps F] in
theorem dev_split (g : Fin 7 → Dev nD) (h : Finset.univ.erase c = ([g 0, g 1, g 2, g 3, g 4, g 5, g 6] : List (Dev nD)).toFinset)
    (hn : ([g 0, g 1, g 2, g 3, g 4, g 5, g 6] : List (Dev nD)).Nodup) (f : Dev nD → sProp 𝕄) :
    bigSep Finset.univ f = iprop(f c ∗ bigSep Finset.univ fun s : Fin 7 => f (g s)) := by
  rw [← rest_eq c g h hn]
  exact (congrArg (fun s => bigSep s f) (Finset.insert_erase (Finset.mem_univ c)).symm).trans (bigSep_insert (Finset.notMem_erase c _))

theorem peer_rest : ∀ c : Dev nD, Finset.univ.erase c = ([peer 0 c, peer 1 c, peer 2 c, peer 3 c, peer 4 c, peer 5 c, peer 6 c] : List (Dev nD)).toFinset := by decide
theorem peer_nodup : ∀ c : Dev nD, ([peer 0 c, peer 1 c, peer 2 c, peer 3 c, peer 4 c, peer 5 c, peer 6 c] : List (Dev nD)).Nodup := by decide
theorem from_rest : ∀ c : Dev nD, Finset.univ.erase c = ([from' 0 c, from' 1 c, from' 2 c, from' 3 c, from' 4 c, from' 5 c, from' 6 c] : List (Dev nD)).toFinset := by decide
theorem from_nodup : ∀ c : Dev nD, ([from' 0 c, from' 1 c, from' 2 c, from' 3 c, from' 4 c, from' 5 c, from' 6 c] : List (Dev nD)).Nodup := by decide
/-- The devices met going round the ring, onwards and backwards. -/
def on (c : Dev nD) (s : Fin 7) : Dev nD := dat (plus (pos c) (s.val + 1))
def back (c : Dev nD) (s : Fin 7) : Dev nD := dat (plus (pos c) (15 - s.val))
theorem on_rest : ∀ c : Dev nD, Finset.univ.erase c = ([on c 0, on c 1, on c 2, on c 3, on c 4, on c 5, on c 6] : List (Dev nD)).toFinset := by decide
theorem on_nodup : ∀ c : Dev nD, ([on c 0, on c 1, on c 2, on c 3, on c 4, on c 5, on c 6] : List (Dev nD)).Nodup := by decide
theorem back_rest : ∀ c : Dev nD, Finset.univ.erase c = ([back c 0, back c 1, back c 2, back c 3, back c 4, back c 5, back c 6] : List (Dev nD)).toFinset := by decide
theorem back_nodup : ∀ c : Dev nD, ([back c 0, back c 1, back c 2, back c 3, back c 4, back c 5, back c 6] : List (Dev nD)).Nodup := by decide

/-- The blocks in the order they reach a place. -/
def agE (b : Bool) (p : Fin 8) : Fin 8 ≃ Fin 8 := Equiv.ofBijective (fun t => agI b p t.val) (by revert b p; decide)
omit [FloatOps F] in
theorem blk_order (b : Bool) (p : Fin 8) (f : Fin 8 → sProp 𝕄) : bigSep Finset.univ f = bigSep Finset.univ fun t : Fin 8 => f (agI b p t.val) :=
  bigSep_univ_equiv (agE b p) f

/-! ## What the body starts from and ends with -/

/-- The scratch buffers, at some contents. -/
def Bufs : sProp 𝕄 :=
  iprop(some' (F := F) c (cM false) ∗ some' (F := F) c (cM true) ∗ some' (F := F) c (pM false) ∗ some' (F := F) c (pM true)
    ∗ some' (F := F) c (gM false) ∗ some' (F := F) c (gM true) ∗ some' (F := F) c (qM false) ∗ some' (F := F) c (qM true)
    ∗ some' (F := F) c axS ∗ some' (F := F) c axB)
/-- The tickets of the barrier. -/
def BarT : sProp 𝕄 :=
  iprop(dutyTok ER (barCell (pv false c)) 0 false ∗ dutyTok ER (barCell (pv true c)) 0 true
    ∗ cred (tallyAt (barCell c) () 2) ∗ atPos ER (barCell c) 0 ∅ 0)
/-- One thing for each of the seventy. -/
def Five (f : Fin 10 → Fin 10 → Fin 7 → Dev nD → sProp 𝕄) : sProp 𝕄 :=
  iprop((bigSep Finset.univ fun s => f (rsK false false) (rsK false true) s c) ∗ (bigSep Finset.univ fun s => f (rsK true false) (rsK true true) s c)
    ∗ (bigSep Finset.univ fun s => f (axK false) (axK true) s c)
    ∗ (bigSep Finset.univ fun s => f (agK false false) (agK false true) s c) ∗ (bigSep Finset.univ fun s => f (agK true false) (agK true true) s c))
/-- The staging semaphores at zero. -/
def St2 (u : Fin 3) : sProp 𝕄 := iprop(semVal (stG c false u) 0 ∗ semVal (stG c true u) 0)
def St6 : sProp 𝕄 := iprop(St2 (F := F) c 0 ∗ St2 (F := F) c 1 ∗ St2 (F := F) c 2)

/-- The rows this device hands on in the first step: its own buffer's, one for every peer. -/
theorem rows_start : (bigSep Finset.univ fun s : Fin 7 => some' (F := F) c (rowD (on c s))) ⊢ rowsIn (F := F) false (pos (nb false c)) 0 := by
  have e : ∀ c : Dev nD, plus (pos (nb false c)) 15 = pos c ∧ pos (nb false c) = plus (pos c) 1 := by decide
  have pp : ∀ (p : Fin 8) (a : Fin 8), plus (plus p a.val) 1 = plus p (a.val + 1) := by decide
  rw [seven]
  unfold rowsIn
  show _ ⊢ rows (F := F) (plus (pos (nb false c)) 15) (pos (nb false c)) 7
  rw [(e c).1, (e c).2]
  unfold rows rows rows rows rows rows rows rows
  rw [dat_pos, show plus (plus (pos c) 1) 1 = plus (pos c) 2 from pp _ 1, show plus (plus (pos c) 2) 1 = plus (pos c) 3 from pp _ 2,
    show plus (plus (pos c) 3) 1 = plus (pos c) 4 from pp _ 3, show plus (plus (pos c) 4) 1 = plus (pos c) 5 from pp _ 4,
    show plus (plus (pos c) 5) 1 = plus (pos c) 6 from pp _ 5, show plus (plus (pos c) 6) 1 = plus (pos c) 7 from pp _ 6]
  iintro ⟨H0, H1, H2, H3, H4, H5, H6⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iempintro

theorem rows_back : (bigSep Finset.univ fun s : Fin 7 => some' (F := F) (back c s) (rowD c)) = bigSep Finset.univ fun s : Fin 7 => some' (F := F) (peer s c) (rowD c) :=
  (rest_eq c (back c) (back_rest c) (back_nodup c) fun d => some' (F := F) d (rowD c)).symm.trans (rest_eq c (fun s => peer s c) (peer_rest c) (peer_nodup c) _)

/-! ## Before and after the barrier -/

/-- A quantised buffer's blocks in the order they come, the device's own first. -/
theorem blks_order (b : Bool) : some' (F := F) c (qM b) ⊢ iprop(some' (F := F) c (qB b (agI b (pos c) 0))
    ∗ bigSep Finset.univ fun t : Fin 7 => some' (F := F) c (qB b (agI b (pos c) (t.val + 1)))) := by
  refine (blks_cut c b).1.trans ?_
  rw [blk_order b (pos c), first_rest (fun n => some' (F := F) c (qB b (agI b (pos c) n)))]
/-- What a side's neighbour may write into, and what stays. -/
theorem side_start (b : Bool) : iprop(some' (F := F) c (cM b) ∗ some' (F := F) c (qM b))
    ⊢ iprop(barPay (F := F) b (pv b c) ∗ some' (F := F) c (qB b (agI b (pos c) 0))) := by
  iintro ⟨HC, HQ⟩
  ihave HC := (slots_cut c b).1 $$ HC
  ihave HQ := (blks_order c b) $$ HQ
  icases HQ with ⟨H0, HQ⟩
  isplitr [H0]
  · iapply (barPay_pv c b)
    isplitl [HC] <;> iassumption
  iexact H0
theorem rowsS : some' (F := F) c axB ⊢ iprop(some' (F := F) c (rowD c) ∗ rowsIn (F := F) false (pos (nb false c)) 0) := by
  refine (rows_cut c).1.trans ?_
  rw [dev_split c (on c) (on_rest c) (on_nodup c) fun d => some' (F := F) c (rowD d)]
  iintro ⟨H0, H⟩
  isplitl [H0]; · iexact H0
  iapply (rows_start c); iexact H
omit [FloatOps F] in
theorem both_order (f : Bool × Fin 8 → sProp 𝕄) : bigSep Finset.univ f
    = bigSep Finset.univ fun t : Fin 8 => iprop(f (false, agI false (pos c) t.val) ∗ f (true, agI true (pos c) t.val)) := by
  rw [bigSep_univ_prod, bigSep_univ_eq_bigSepL [false, true] (by decide) (by decide), bigSepL_cons_cons, bigSepL_singleton]
  rw [blk_order false (pos c) (fun g => f (false, g)), blk_order true (pos c) (fun g => f (true, g)), bigSep_sep']
  rfl
theorem wins_order : some' (F := F) c outM ⊢ iprop(WinT (F := F) c 0 ∗ bigSep Finset.univ fun t : Fin 7 => WinT (F := F) c (t.val + 1)) := by
  refine (wins_cut c).1.trans ?_
  rw [both_order c, ← first_rest (fun n => WinT (F := F) c n)]
  exact .rfl
theorem wins_end : (bigSep Finset.univ fun t : Fin 8 => WinD c xs ws t.val) ⊢ owns (c : Thread nD τ) outM fullShare (outAll xs ws) := by
  refine BIBase.Entails.trans (BIBase.Entails.of_eq ?_) (wins_join c xs ws)
  rw [both_order c]
  rfl
theorem blks_end : (bigSep Finset.univ fun t : Fin 8 => Blks c xs ws t.val fullShare) ⊢ iprop(some' (F := F) c (qM false) ∗ some' (F := F) c (qM true)) := by
  unfold Blks Blk
  rw [bigSep_sep']
  have h : ∀ b, (bigSep Finset.univ fun t : Fin 8 => (owns (c : Thread nD τ) (qB b (agI b (pos c) t.val)) fullShare (qv xs ws b (agI b (pos c) t.val)) : sProp 𝕄))
      ⊢ some' (F := F) c (qM b) := fun b => by
    refine BIBase.Entails.trans ?_ (blks_cut c b).2
    rw [blk_order b (pos c) fun g => some' (F := F) c (qB b g)]
    exact bigSep_mono fun t _ => some_intro c _
  iintro ⟨H1, H2⟩
  isplitl [H1]
  · iapply (h false); iexact H1
  iapply (h true); iexact H2
theorem rs_tickets : iprop((bigSep Finset.univ fun s : Fin 7 => some' (F := F) (nb false c) (slotM false s)) ∗ (bigSep Finset.univ fun s : Fin 7 => some' (F := F) (nb true c) (slotM true s))
      ∗ (bigSep Finset.univ fun s => Ends (F := F) (rsK false false) (rsK false true) s c) ∗ (bigSep Finset.univ fun s => Ends (F := F) (rsK true false) (rsK true true) s c))
    ⊢ bigSep Finset.univ fun s => RsT (F := F) c s := by
  unfold RsT
  rw [bigSep_sep', bigSep_sep', bigSep_sep']
  iintro ⟨H1, H2, H3, H4⟩
  isplitl [H1 H3]
  · isplitl [H1] <;> iassumption
  isplitl [H2] <;> iassumption
theorem ag_tickets : iprop((bigSep Finset.univ fun t : Fin 7 => some' (F := F) (nb false c) (qB false (agI false (pos c) t.val))) ∗ (bigSep Finset.univ fun t : Fin 7 => some' (F := F) (nb true c) (qB true (agI true (pos c) t.val)))
      ∗ (bigSep Finset.univ fun s => Ends (F := F) (agK false false) (agK false true) s c) ∗ (bigSep Finset.univ fun s => Ends (F := F) (agK true false) (agK true true) s c))
    ⊢ bigSep Finset.univ fun s => AgT (F := F) c s := by
  unfold AgT
  rw [bigSep_sep', bigSep_sep', bigSep_sep']
  iintro ⟨H1, H2, H3, H4⟩
  isplitl [H1 H3]
  · isplitl [H1] <;> iassumption
  isplitl [H2] <;> iassumption
theorem rs_done : (bigSep Finset.univ fun s => RsD (F := F) c s)
    ⊢ iprop(((bigSep Finset.univ fun s : Fin 7 => some' (F := F) c (srcM false s)) ∗ (bigSep Finset.univ fun s : Fin 7 => some' (F := F) c (srcM true s)))
      ∗ (bigSep Finset.univ fun s : Fin 7 => some' (F := F) (peer s c) (rowD c))
      ∗ (bigSep Finset.univ fun s => Shut (F := F) (rsK false false) (rsK false true) s c) ∗ (bigSep Finset.univ fun s => Shut (F := F) (rsK true false) (rsK true true) s c)) := by
  unfold RsD
  rw [bigSep_sep', bigSep_sep', bigSep_sep', bigSep_sep', ← rows_back]
  exact .rfl
theorem ax_tickets : iprop((bigSep Finset.univ fun s : Fin 7 => some' (F := F) (peer s c) (rowD c)) ∗ (bigSep Finset.univ fun s => Ends (F := F) (axK false) (axK true) s c))
    ⊢ bigSep Finset.univ fun s => AxT (F := F) c s := by
  unfold AxT
  rw [bigSep_sep']
theorem piece_join (n : ℕ) : iprop(owns (c : Thread nD τ) axS (left (n + 1)) (axRow xs ws c) ∗ owns (c : Thread nD τ) axS (piece n) (axRow xs ws c))
    ⊢ (owns (c : Thread nD τ) axS (left n) (axRow xs ws c) : sProp 𝕄) := by
  iintro ⟨H1, H2⟩
  iapply (owns_halves (c : Thread nD τ) axS (left n) (axRow xs ws c)).2
  isplitl [H2]
  · unfold piece; iexact H2
  · iexact H1
theorem pieces_join : iprop(owns (c : Thread nD τ) axS (left 7) (axRow xs ws c)
      ∗ bigSep Finset.univ fun s : Fin 7 => owns (c : Thread nD τ) axS (piece s.val) (axRow xs ws c)) ⊢ some' (F := F) c axS := by
  rw [seven]
  iintro ⟨HL, H0, H1, H2, H3, H4, H5, H6⟩
  ihave HL := (piece_join c xs ws 6) $$ [HL H6]
  · isplitl [HL]; · iexact HL
    iexact H6
  ihave HL := (piece_join c xs ws 5) $$ [HL H5]
  · isplitl [HL]; · iexact HL
    iexact H5
  ihave HL := (piece_join c xs ws 4) $$ [HL H4]
  · isplitl [HL]; · iexact HL
    iexact H4
  ihave HL := (piece_join c xs ws 3) $$ [HL H3]
  · isplitl [HL]; · iexact HL
    iexact H3
  ihave HL := (piece_join c xs ws 2) $$ [HL H2]
  · isplitl [HL]; · iexact HL
    iexact H2
  ihave HL := (piece_join c xs ws 1) $$ [HL H1]
  · isplitl [HL]; · iexact HL
    iexact H1
  ihave HL := (piece_join c xs ws 0) $$ [HL H0]
  · isplitl [HL]; · iexact HL
    iexact H0
  iapply (some_intro c axS (X := axRow xs ws c))
  iexact HL
theorem ax_done : iprop(owns (c : Thread nD τ) axS (left 7) (axRow xs ws c) ∗ owns (c : Thread nD τ) (rowD c) fullShare (axRow xs ws c) ∗ bigSep Finset.univ fun s => AxD c xs ws s)
    ⊢ iprop(some' (F := F) c axS ∗ owns (c : Thread nD τ) axB fullShare (axFull xs ws) ∗ bigSep Finset.univ fun s => Shut (F := F) (axK false) (axK true) s c) := by
  unfold AxD
  rw [bigSep_sep', bigSep_sep']
  iintro ⟨HL, H0, ⟨HP, HR⟩, HZ⟩
  isplitl [HL HP]
  · iapply (pieces_join c xs ws); isplitl [HL] <;> iassumption
  isplitr [HZ]
  · iapply (rows_join c xs ws)
    rw [dev_split c (fun s => from' s c) (from_rest c) (from_nodup c)]
    isplitl [H0] <;> iassumption
  iexact HZ

/-! ## The body -/

theorem slots_end (b : Bool) : iprop((bigSep Finset.univ fun s : Fin 7 => some' (F := F) c (slotM b s))) ⊢ some' (F := F) c (cM b) := (slots_cut c b).2

/-- The staging pairs with the slots they copy out of. -/
theorem idle_intro : iprop((some' (F := F) c (slotM false 0) ∗ some' (F := F) c (slotM true 0)) ∗ (some' (F := F) c (slotM false 1) ∗ some' (F := F) c (slotM true 1))
      ∗ (some' (F := F) c (slotM false 2) ∗ some' (F := F) c (slotM true 2)) ∗ St6 (F := F) c)
    ⊣⊢ iprop(Idle (F := F) c 0 ∗ Idle (F := F) c 1 ∗ Idle (F := F) c 2) := by
  unfold Idle St6 St2
  constructor
  · iintro ⟨H0, H1, H2, S0, S1, S2⟩
    isplitl [H0 S0]
    · isplitl [H0]; · iexact H0
      iexact S0
    isplitl [H1 S1]
    · isplitl [H1]; · iexact H1
      iexact S1
    isplitl [H2]; · iexact H2
    iexact S2
  · iintro ⟨⟨H0, S0⟩, ⟨H1, S1⟩, H2, S2⟩
    isplitl [H0]; · iexact H0
    isplitl [H1]; · iexact H1
    isplitl [H2]; · iexact H2
    isplitl [S0]; · iexact S0
    isplitl [S1]; · iexact S1
    iexact S2

/-- One device's body, from its scratch buffers, tickets and semaphores to the written output with everything back. -/
theorem body_wp :
    iprop(Rec xs ws ∗ levAts L lv ∗ XW c xs ws ∗ Bufs (F := F) c ∗ some' (F := F) c outM ∗ BarT (F := F) c ∗ Five c (Ends (F := F)) ∗ St6 (F := F) c ∗ Ow (F := F) c (O c 0))
      ⊢ iprop(((XW c xs ws ∗ Bufs (F := F) c ∗ owns (c : Thread nD τ) outM fullShare (outAll xs ws) ∗ semVal (barCell c) 0 ∗ Five c (Shut (F := F)) ∗ St6 (F := F) c
          ∗ Ow (F := F) c (O c 37)) -∗ Q ⟨⟩) -∗ W c Q (bodyOn c)) := by
  unfold bodyOn Bufs BarT Five
  iintro ⟨#HR, #Hlev, HXW, ⟨HcA, HcB, HpA, HpB, HgA, HgB, HqA, HqB, HaxS, HaxB⟩, Hout, ⟨Hbf, Hbt, Hbc, Hba⟩, ⟨HErA, HErB, HEx, HEgA, HEgB⟩, HSt, HO⟩ Hk
  ihave HA := (side_start c false) $$ [HcA HqA]
  · isplitl [HcA] <;> iassumption
  icases HA with ⟨HPA, HqA⟩
  ihave HB := (side_start c true) $$ [HcB HqB]
  · isplitl [HcB] <;> iassumption
  icases HB with ⟨HPB, HqB⟩
  ihave HaxB := (rowsS c) $$ HaxB
  icases HaxB with ⟨Hown, Hrows⟩
  ihave Hout := (wins_order c) $$ Hout
  icases Hout with ⟨HW0, HWs⟩
  iapply (barrier_wp c xs ws) $$ [HPA HPB Hbf Hbt Hbc Hba HO]
  · isplitr; · iexact HR
    isplitr; · iexact Hlev
    isplitl [HPA]; · iexact HPA
    isplitl [HPB]; · iexact HPB
    isplitl [Hbf]; · iexact Hbf
    isplitl [Hbt]; · iexact Hbt
    isplitl [Hbc]; · iexact Hbc
    isplitl [Hba]; · iexact Hba
    iexact HO
  iintro ⟨HO, HPA, HPB, HZb⟩
  unfold barPay
  icases HPA with ⟨HsA, HbA⟩
  icases HPB with ⟨HsB, HbB⟩
  ihave HRs := (rs_tickets c) $$ [HsA HsB HErA HErB]
  · isplitl [HsA]; · iexact HsA
    isplitl [HsB]; · iexact HsB
    isplitl [HErA]; · iexact HErA
    iexact HErB
  ihave HAg := (ag_tickets c) $$ [HbA HbB HEgA HEgB]
  · isplitl [HbA]; · iexact HbA
    isplitl [HbB]; · iexact HbB
    isplitl [HEgA]; · iexact HEgA
    iexact HEgB
  iapply (chunk_wp c xs ws false (gM false) (pos c) (off1_eq c)) $$ [HXW HgA]
  · isplitl [HXW] <;> iassumption
  iintro ⟨HXW, HgA⟩
  iapply (chunk_wp c xs ws true (gM true) (pos c) (off1_eq c)) $$ [HXW HgB]
  · isplitl [HXW] <;> iassumption
  iintro ⟨HXW, HgB⟩
  iapply (rsAll_wp c xs ws) $$ [HXW HpA HpB HgA HgB HRs Hrows HO]
  · isplitr; · iexact HR
    isplitr; · iexact Hlev
    isplitl [HXW HpA HpB]
    · unfold Scr
      isplitl [HXW]; · iexact HXW
      isplitl [HpA] <;> iassumption
    isplitl [HgA HgB]
    · unfold Cur
      isplitl [HgA]; · iexact HgA
      iexact HgB
    isplitl [HRs]; · iexact HRs
    isplitl [Hrows]; · iexact Hrows
    iexact HO
  iintro ⟨HS, HC, HRd, HO⟩
  ihave HRd := (rs_done c) $$ HRd
  icases HRd with ⟨⟨HsA, HsB⟩, Hpr, HZrA, HZrB⟩
  ihave HAx := (ax_tickets c) $$ [Hpr HEx]
  · isplitl [Hpr] <;> iassumption
  iapply (axAll_wp c xs ws) $$ [HC HaxS Hown HAx HO]
  · isplitr; · iexact HR
    isplitr; · iexact Hlev
    isplitl [HC]; · iexact HC
    isplitl [HaxS]; · iexact HaxS
    isplitl [Hown]; · iexact Hown
    isplitl [HAx]; · iexact HAx
    iexact HO
  iintro ⟨HC, HaxS, Hown, HAx, HO⟩
  ihave HAx := (ax_done c xs ws) $$ [HaxS Hown HAx]
  · isplitl [HaxS]; · iexact HaxS
    isplitl [Hown]; · iexact Hown
    iexact HAx
  icases HAx with ⟨HaxS, HaxB, HZx⟩
  ihave HsA := (BIBase.Entails.of_eq (seven (fun s : Fin 7 => some' (F := F) c (srcM false s)))) $$ HsA
  ihave HsB := (BIBase.Entails.of_eq (seven (fun s : Fin 7 => some' (F := F) c (srcM true s)))) $$ HsB
  icases HsA with ⟨HgA, HsA0, HsA1, HsA2, HsA3, HsA4, HsA5⟩
  icases HsB with ⟨HgB, HsB0, HsB1, HsB2, HsB3, HsB4, HsB5⟩
  ihave HI := (idle_intro c).1 $$ [HsA0 HsB0 HsA1 HsB1 HsA2 HsB2 HSt]
  · isplitl [HsA0 HsB0]
    · isplitl [HsA0]; · iexact HsA0
      iexact HsB0
    isplitl [HsA1 HsB1]
    · isplitl [HsA1]; · iexact HsA1
      iexact HsB1
    isplitl [HsA2 HsB2]
    · isplitl [HsA2]; · iexact HsA2
      iexact HsB2
    iexact HSt
  iapply (quantAll_wp c xs ws) $$ [HaxB HC HqA HqB HW0 HI HAg HWs HO]
  · isplitr; · iexact HR
    isplitr; · iexact Hlev
    isplitl [HaxB]; · iexact HaxB
    isplitl [HC]; · iexact HC
    isplitl [HqA HqB]
    · isplitl [HqA] <;> iassumption
    isplitl [HW0]; · iexact HW0
    isplitl [HI]; · iexact HI
    isplitl [HAg]; · iexact HAg
    isplitl [HWs]; · iexact HWs
    iexact HO
  iintro ⟨HaxB, HC, HBl, HWd, HI, HAg, HO⟩
  ihave HI := (idle_intro c).2 $$ HI
  icases HI with ⟨⟨HsA0, HsB0⟩, ⟨HsA1, HsB1⟩, ⟨HsA2, HsB2⟩, HSt⟩
  unfold Cur Scr
  icases HC with ⟨HsA6, HsB6⟩
  icases HS with ⟨HXW, HpA, HpB⟩
  ihave HBl := (blks_end c xs ws) $$ HBl
  icases HBl with ⟨HqA, HqB⟩
  unfold AgD
  ihave HAg := (BIBase.Entails.of_eq (bigSep_sep' _ _ _)) $$ HAg
  icases HAg with ⟨HZgA, HZgB⟩
  iapply Hk
  isplitl [HXW]; · iexact HXW
  isplitl [HsA0 HsA1 HsA2 HsA3 HsA4 HsA5 HsA6 HsB0 HsB1 HsB2 HsB3 HsB4 HsB5 HsB6 HpA HpB HgA HgB HqA HqB HaxS HaxB]
  · isplitl [HsA0 HsA1 HsA2 HsA3 HsA4 HsA5 HsA6]
    · iapply (slots_end c false)
      rw [seven]
      isplitl [HsA0]; · iexact HsA0
      isplitl [HsA1]; · iexact HsA1
      isplitl [HsA2]; · iexact HsA2
      isplitl [HsA3]; · iexact HsA3
      isplitl [HsA4]; · iexact HsA4
      isplitl [HsA5]; · iexact HsA5
      iapply (some_intro c (slotM false 6) (X := sent xs ws false 7 c)); iexact HsA6
    isplitl [HsB0 HsB1 HsB2 HsB3 HsB4 HsB5 HsB6]
    · iapply (slots_end c true)
      rw [seven]
      isplitl [HsB0]; · iexact HsB0
      isplitl [HsB1]; · iexact HsB1
      isplitl [HsB2]; · iexact HsB2
      isplitl [HsB3]; · iexact HsB3
      isplitl [HsB4]; · iexact HsB4
      isplitl [HsB5]; · iexact HsB5
      iapply (some_intro c (slotM true 6) (X := sent xs ws true 7 c)); iexact HsB6
    isplitl [HpA]; · iexact HpA
    isplitl [HpB]; · iexact HpB
    isplitl [HgA]; · iexact HgA
    isplitl [HgB]; · iexact HgB
    isplitl [HqA]; · iexact HqA
    isplitl [HqB]; · iexact HqB
    isplitl [HaxS]; · iexact HaxS
    iapply (some_intro c axB (X := axFull xs ws)); iexact HaxB
  isplitl [HWd]; · iapply (wins_end c xs ws); iexact HWd
  isplitl [HZb]; · iexact HZb
  isplitl [HZrA HZrB HZx HZgA HZgB]
  · isplitl [HZrA]; · iexact HZrA
    isplitl [HZrB]; · iexact HZrB
    isplitl [HZx]; · iexact HZx
    isplitl [HZgA]; · iexact HZgA
    iexact HZgB
  isplitl [HSt]; · iexact HSt
  iexact HO

end Cert.KernelIdeal.Ring

end
-- ==== Proof.Setup.lean ====
/- What the launch deals: the cells' invariants, every device's tickets, the credit of its receive cells. -/
module

public import proofs.«01_k».proof.Proof.Whole

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (c : Dev nD) {Q : PUnit.{1} → sProp (MT nD τ sig Unit (Elt F) ℕ UU ℕ)}
variable (xs : Dev nD → (cc0_stg0_0 : Ref sig .tc).ty.Contents (Elt F)) (ws : Dev nD → (cc0_stg1_0 : Ref sig .tc).ty.Contents (Elt F))

/-! ## Sums over the index types -/

omit [FloatOps F] in
theorem sep_option {A : Type} [Fintype A] (Φ : Option A → sProp 𝕄) : bigSep Finset.univ Φ = iprop((bigSep Finset.univ fun a => Φ (some a)) ∗ Φ none) := by
  rw [bigSep_univ_equiv (Equiv.optionEquivSumPUnit.{0} A).symm Φ, bigSep_univ_sum]
  rw [show (bigSep Finset.univ fun b : PUnit.{1} => Φ ((Equiv.optionEquivSumPUnit.{0} A).symm (Sum.inr b))) = Φ none from
    bigSep_univ_eq_bigSepL [PUnit.unit] (by decide) (by decide) _]
  rfl
omit [FloatOps F] in
theorem sep_ci (Φ : CI → sProp 𝕄) : bigSep Finset.univ Φ = iprop((bigSep Finset.univ fun k : Fin 10 => bigSep Finset.univ fun s : Fin 7 => Φ (some (k, s))) ∗ Φ none) := by
  rw [sep_option, bigSep_univ_prod]
omit [FloatOps F] in
theorem sep_j (Φ : J → sProp 𝕄) : bigSep Finset.univ Φ = iprop((Φ (.inl false) ∗ Φ (.inl true)) ∗ bigSep Finset.univ fun k : Fin 10 => bigSep Finset.univ fun s : Fin 7 => Φ (.inr (k, s))) := by
  rw [bigSep_univ_sum, bigSep_univ_prod, bigSep_univ_eq_bigSepL [false, true] (by decide) (by decide), bigSepL_cons_cons, bigSepL_singleton]
  rfl
omit [FloatOps F] in
theorem ten (f : Fin 10 → sProp 𝕄) : bigSep Finset.univ f = iprop(f 0 ∗ f 1 ∗ f 2 ∗ f 3 ∗ f 4 ∗ f 5 ∗ f 6 ∗ f 7 ∗ f 8 ∗ f 9) := by
  rw [bigSep_univ_eq_bigSepL [0, 1, 2, 3, 4, 5, 6, 7, 8, 9] (by decide) (by decide)]; rfl

omit [FloatOps F] in
theorem sep_pairs (P1 P2 P3 P4 P5 P6 : sProp 𝕄) : iprop(P1 ∗ P2 ∗ P3 ∗ P4 ∗ P5 ∗ P6) = iprop((P1 ∗ P2) ∗ (P3 ∗ P4) ∗ P5 ∗ P6) := by
  refine BI.Entails.antisymm (?_ : iprop(P1 ∗ P2 ∗ P3 ∗ P4 ∗ P5 ∗ P6) ⊢ iprop((P1 ∗ P2) ∗ (P3 ∗ P4) ∗ P5 ∗ P6)) (?_ : iprop((P1 ∗ P2) ∗ (P3 ∗ P4) ∗ P5 ∗ P6) ⊢ iprop(P1 ∗ P2 ∗ P3 ∗ P4 ∗ P5 ∗ P6))
  · iintro ⟨H1, H2, H3, H4, H5, H6⟩
    isplitl [H1 H2]
    · isplitl [H1] <;> iassumption
    isplitl [H3 H4]
    · isplitl [H3] <;> iassumption
    isplitl [H5] <;> iassumption
  · iintro ⟨⟨H1, H2⟩, ⟨H3, H4⟩, H5, H6⟩
    isplitl [H1]; · iexact H1
    isplitl [H2]; · iexact H2
    isplitl [H3]; · iexact H3
    isplitl [H4]; · iexact H4
    isplitl [H5] <;> iassumption

/-! ## The kernel's own semaphores, the cells, the duties -/

/-- The seventy, and the six of the staging copies. -/
abbrev OS : Type := (Fin 10 × Fin 7) ⊕ (Bool × Fin 3)
abbrev osem : OS → SemLoc sig
  | .inl ks => .dma (cell ks.1 ks.2)
  | .inr bu => .dma (stCell bu.1 bu.2)
theorem ownSemFacts : Pipeline.OwnSemFacts cfg0.spec osem := by decide +kernel

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun k : Fin 10 => bigSep Finset.univ fun s : Fin 7 => semVal (dcell k s c) 0) ∗ St6 (F := F) c) := by
  unfold Pipeline.ownSems0
  rw [bigSep_univ_sum, bigSep_univ_prod]
  refine congrArg (BI.sep _) ?_
  rw [bigSep_univ_eq_bigSepL [(false, (0 : Fin 3)), (true, 0), (false, 1), (true, 1), (false, 2), (true, 2)] (by decide) (by decide)]
  simp only [bigSepL_cons_cons, bigSepL_singleton]
  unfold St6 St2
  exact sep_pairs _ _ _ _ _ _
omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem semOf_inj : Function.Injective semOf := by decide +kernel
theorem cellOn_inj : Function.Injective (fun ck : Dev nD × CI => cellOn ck.1 ck.2) := by
  rintro ⟨c, i⟩ ⟨c', i'⟩ h
  have h1 : c = c' := congrArg (fun g : GSem nD τ sig => g.1.1) h
  have h2 : semOf i = semOf i' := congrArg Prod.snd h
  rw [h1, semOf_inj h2]
def ringCells : Finset (GSem nD τ sig) := Finset.univ.map ⟨_, cellOn_inj⟩

abbrev tokOf (cj : Dev nD × J) : GSem nD τ sig × ℕ × Bool := (cellOn cj.1 (ciOf cj.2), 0, dutyOf cj.2)
theorem tokOf_inj : Function.Injective (tokOf : Dev nD × J → GSem nD τ sig × ℕ × Bool) := by
  rintro ⟨c, j⟩ ⟨c', j'⟩ h
  have h1 : c = c' := congrArg (fun x : GSem nD τ sig × ℕ × Bool => x.1.1.1) h
  have h2 : ciOf j = ciOf j' := semOf_inj (congrArg (fun x : GSem nD τ sig × ℕ × Bool => x.1.2) h)
  have h3 : dutyOf j = dutyOf j' := congrArg (fun x : GSem nD τ sig × ℕ × Bool => x.2.2) h
  have : j = j' := by
    rcases j with b | ks <;> rcases j' with b' | ks'
    · exact congrArg Sum.inl h3
    · cases h2
    · cases h2
    · exact congrArg Sum.inr (Option.some.inj h2)
  rw [h1, this]
def ringToks : Finset (GSem nD τ sig × ℕ × Bool) := Finset.univ.map ⟨tokOf, tokOf_inj⟩

def u₀ : UU := (initOf (Pipeline.cells cfgs cellOf_inj) (Pipeline.launchToks cfgs cellOf_inj), (initOf ringCells ringToks, 1))

omit [FloatOps F] in
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The duty tokens of device `c`'s own cells; those of the duties it pays. -/
def toks (c : Dev nD) : sProp 𝕄 := bigSep Finset.univ fun j : J => dutyTok ER (cellOn c (ciOf j)) 0 (dutyOf j)
def payToks (c : Dev nD) : sProp 𝕄 := bigSep Finset.univ fun j : J => dutyTok ER (cellOn (tgt j c) (ciOf j)) 0 (dutyOf j)
def ats (c : Dev nD) : sProp 𝕄 := bigSep Finset.univ fun i : CI => atPos ER (cellOn c i) 0 ∅ 0

/-- What the launch gives each device, and what the first step makes of it. -/
def G (c : Dev nD) : sProp 𝕄 :=
  iprop((bigSep Finset.univ fun i : CI => roundState ER (Rd xs ws) (cellOn c i) 0)
    ∗ (ats (F := F) c ∗ bigSep Finset.univ fun i : CI => reached ER (cellOn c i) 0) ∗ toks (F := F) c)
def G' (c : Dev nD) : sProp 𝕄 := iprop(Rec xs ws ∗ (ats (F := F) c ∗ payToks (F := F) c) ∗ St6 (F := F) c)

theorem fund_ring : BI.own (ER (initOf ringCells ringToks)) ⊢ (|==> bigSep Finset.univ (G xs ws) : sProp 𝕄) := by
  have hX (Φ : GSem nD τ sig → sProp 𝕄) : bigSep ringCells Φ = bigSep Finset.univ fun c : Dev nD => bigSep Finset.univ fun i : CI => Φ (cellOn c i) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]; rfl
  iintro HX
  imod (Rounds.fund ER (Rd xs ws) ringCells ringToks) $$ HX with ⟨Hst, Hr, Hat, Htok⟩
  imodintro
  ihave Hst' := (BIBase.Entails.of_eq (hX fun g => roundState ER (Rd xs ws) g 0)) $$ Hst
  ihave Hat' := (BIBase.Entails.of_eq (hX fun g => atPos ER g 0 ∅ 0)) $$ Hat
  ihave Hr' := (BIBase.Entails.of_eq (hX fun g => reached ER g 0)) $$ Hr
  ihave Htok' := (BIBase.Entails.of_eq hT) $$ Htok
  unfold G ats
  simp only [bigSep_sep']
  isplitl [Hst']; · iexact Hst'
  isplitl [Hat' Hr']
  · isplitl [Hat'] <;> iassumption
  iexact Htok'

omit [FloatOps F] in
theorem sems0_eq (c : Dev nD) :
    iprop(Pipeline.ownSems0 (Ix := Unit) (Name := ℕ) (U := UU) (Lvl := ℕ) (Val := Elt F) (τ := τ) osem c ∗ unscopedSems0 c)
      ⊣⊢ iprop((bigSep Finset.univ fun i : CI => semVal (cellOn c i) 0) ∗ St6 (F := F) c) := by
  rw [ownSems0_eq, unscopedSems0_eq, sep_ci]
  constructor
  · iintro ⟨⟨H, HS⟩, HB⟩
    isplitr [HS]
    · isplitl [H]; · iexact H
      iexact HB
    iexact HS
  · iintro ⟨⟨H, HB⟩, HS⟩
    isplitr [HB]
    · isplitl [H]; · iexact H
      iexact HS
    iexact HB

/-- The step's middle: each device's cells allocated. -/
def Mid (c : Dev nD) : sProp 𝕄 :=
  iprop((bigSep Finset.univ fun i : CI => iprop(∃ κ : ℕ, cellInv ER (Rd xs ws) κ (cellOn c i)))
    ∗ (ats (F := F) c ∗ bigSep Finset.univ fun i : CI => reached ER (cellOn c i) 0) ∗ toks (F := F) c ∗ St6 (F := F) c)

theorem core_alloc (c : Dev nD) :
    iprop(Pipeline.ownSems0 (Ix := Unit) (Name := ℕ) (U := UU) (Lvl := ℕ) (Val := Elt F) (τ := τ) osem c ∗ unscopedSems0 c ∗ G xs ws c)
      ⊢ |={Set.univ}=> Mid xs ws c := by
  unfold G Mid
  iintro ⟨Hos, Hus, Hst, Hat, Htok⟩
  ihave Hv := (sems0_eq (F := F) c).1 $$ [Hos Hus]
  · isplitl [Hos] <;> iassumption
  icases Hv with ⟨Hv, HS⟩
  imod (show iprop((bigSep Finset.univ fun i : CI => semVal (cellOn c i) 0) ∗ bigSep Finset.univ fun i : CI => roundState ER (Rd xs ws) (cellOn c i) 0)
      ⊢ (|={Set.univ}=> bigSep Finset.univ fun i : CI => iprop(∃ κ : ℕ, cellInv ER (Rd xs ws) κ (cellOn c i)) : sProp 𝕄) from by
        rw [← bigSep_sep']
        exact (bigSep_mono fun i _ => (Rounds.body_intro ER (Rd xs ws) (cellOn c i)).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HS

omit [FloatOps F] in
/-- Each token to the device that pays the duty. -/
theorem toks_around : (bigSep Finset.univ fun c : Dev nD => toks (F := F) c) = bigSep Finset.univ fun c : Dev nD => payToks (F := F) c := by
  unfold toks payToks
  rw [Pipeline.bigSep_univ_comm, Pipeline.bigSep_univ_comm (fun (c : Dev nD) (j : J) => dutyTok ER (cellOn (tgt j c) (ciOf j)) 0 (dutyOf j))]
  exact congrArg (bigSep Finset.univ) (funext fun j => bigSep_univ_equiv (tgt j) (fun c : Dev nD => dutyTok ER (cellOn c (ciOf j)) 0 (dutyOf j)))

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ fun c : Dev nD => Mid xs ws c) ⊢ bigSep Finset.univ (G' xs ws) := by
  unfold Mid
  rw [bigSep_sep', bigSep_sep', bigSep_sep', bigSep_sep', toks_around,
    ← bigSep_univ_prod (fun ck : Dev nD × CI => iprop(∃ κ : ℕ, cellInv ER (Rd xs ws) κ (cellOn ck.1 ck.2))),
    ← bigSep_univ_prod (fun ck : Dev nD × CI => (reached ER (cellOn ck.1 ck.2) 0 : sProp 𝕄))]
  iintro ⟨HI, ⟨Hat, #HR⟩, Htok, HS⟩
  ihave HK := (BI.bigSep_exists_pi Finset.univ (fun (ck : Dev nD × CI) (κ : ℕ) => (cellInv ER (Rd xs ws) κ (cellOn ck.1 ck.2) : sProp 𝕄))) $$ HI
  icases HK with ⟨%K, #HI⟩
  iapply (with_persistent (R := Rec xs ws) (Φ := fun c => iprop((ats (F := F) c ∗ payToks (F := F) c) ∗ St6 (F := F) c)) (Ψ := G' xs ws) fun c _ => .rfl)
  isplitr
  · unfold Rec
    iexists K
    isplitr
    · iexact HI
    · iexact HR
  · rw [bigSep_sep', bigSep_sep']
    isplitr [HS]
    · isplitl [Hat] <;> iassumption
    iexact HS

/-- The semaphores of every device at once. -/
theorem glob : (bigSep Finset.univ fun c => iprop(Pipeline.ownSems0 (Ix := Unit) (Name := ℕ) (U := UU) (Lvl := ℕ) (Val := Elt F) (τ := τ) osem c ∗ unscopedSems0 c ∗ G xs ws c) : sProp 𝕄)
    ⊢ |={Set.univ}=> bigSep Finset.univ (G' xs ws) :=
  ((bigSep_mono fun c _ => core_alloc xs ws c).trans (bigSep_fupd _ _)).trans (BI.fupd_mono (regroup xs ws))

/-! ## The launch's credit -/

/-- How many duties there are on a cell, and the units of each. -/
def cnt : CI → ℕ
  | none => 2
  | some (k, _) => if k.val % 2 = 1 then 1 else 0
def unitC : CI → ℕ
  | none => 1
  | some (k, _) => amt k
theorem cnt_eq : ∀ i : CI, pays.countP (fun j => i = ciOf j) = cnt i := by decide +kernel

theorem sum_count (i : CI) (l : List J) : (l.map fun j => if i = ciOf j then unitsOf j else 0).sum = l.countP (fun j => i = ciOf j) * unitC i := by
  induction l with
  | nil => rw [List.map_nil, List.sum_nil, List.countP_nil, Nat.zero_mul]
  | cons j l ih =>
    rw [List.map_cons, List.sum_cons, ih, List.countP_cons]
    by_cases h : i = ciOf j
    · subst h
      rw [if_pos rfl, if_pos (by simp), Nat.add_mul, Nat.one_mul, Nat.add_comm]
      congr 1
      rcases j with b | ks <;> rfl
    · rw [if_neg h, if_neg (by simpa using h), Nat.zero_add, Nat.add_zero]

theorem owed_sum (c : Dev nD) (i : CI) (l : List J) : ∑ d : Dev nD, oweL d l (cellOn c i) () = (l.map fun j => if i = ciOf j then unitsOf j else 0).sum := by
  induction l with
  | nil => exact Finset.sum_const_zero
  | cons j l ih =>
    rw [List.map_cons, List.sum_cons, ← ih, Nat.add_comm, Finset.sum_congr rfl fun d _ => show oweL d (j :: l) (cellOn c i) () = oweL d l (cellOn c i) () + (if d = (tgt j).symm c then (if i = ciOf j then unitsOf j else 0) else 0) from ?_,
      Finset.sum_add_distrib, Finset.sum_ite_eq' Finset.univ ((tgt j).symm c) fun _ => if i = ciOf j then unitsOf j else 0, if_pos (Finset.mem_univ _)]
    rw [show oweL d (j :: l) = oweL d l + tallyAt (cellOn (tgt j d) (ciOf j)) () (unitsOf j) from rfl, Pi.add_apply, Finsupp.add_apply, tallyAt_apply]
    congr 1
    by_cases hd : d = (tgt j).symm c
    · have e : tgt j d = c := by rw [hd, Equiv.apply_symm_apply]
      rw [if_pos hd, e]
      by_cases hi : i = ciOf j
      · rw [if_pos hi, if_pos ⟨by rw [hi], rfl⟩]
      · rw [if_neg hi, if_neg fun h => hi (semOf_inj (congrArg Prod.snd h.1))]
    · rw [if_neg hd, if_neg fun h => hd (by rw [show c = tgt j d from congrArg (fun g : GSem nD τ sig => g.1.1) h.1, Equiv.symm_apply_apply])]

abbrev O₀ (c : Dev nD) : CellTallies nD τ sig Unit := O c 0

theorem launch_at (c : Dev nD) (i : CI) :
    tallyOn (cellOn c i) (launchCredit (Pipeline.owing O₀) 0 (cellOn c i)) = (tallyAt (cellOn c i) () (cnt i * unitC i) : CellTallies nD τ sig Unit) := by
  unfold tallyAt; refine congrArg _ (Finsupp.ext fun u => ?_); cases u
  rw [Pipeline.launchCredit_owing, Finsupp.single_eq_same]
  exact (owed_sum c i pays).trans ((sum_count i pays).trans (by rw [cnt_eq]))

omit [FloatOps F] in
theorem creds (c : Dev nD) : (Pipeline.launchCred O₀ c : sProp 𝕄) ⊢ bigSep Finset.univ fun i : CI => cred (tallyAt (cellOn c i) () (cnt i * unitC i)) := by
  unfold Pipeline.launchCred
  refine (BI.bigSep_subset (Finset.subset_univ (Finset.univ.map ⟨semOf, semOf_inj⟩))).trans ?_
  rw [bigSep_map]
  exact BIBase.Entails.of_eq (congrArg (bigSep Finset.univ) (funext fun i => congrArg (fun t => cred t) (launch_at c i)))

/-! ## A device's tickets -/

/-- What a device holds for semaphore `(k, s)`. -/
def Item (k : Fin 10) (s : Fin 7) : sProp 𝕄 :=
  iprop(atPos ER (dcell k s c) 0 ∅ 0 ∗ dutyTok ER (dcell k s (tgt (.inr (k, s)) c)) 0 false ∗ cred (tallyAt (dcell k s c) () (cnt (some (k, s)) * amt k)))

omit [FloatOps F] in
theorem ends_intro (ks kr : Fin 10) (h1 : ∀ s, tgt (.inr (ks, s)) c = c) (h2 : ∀ s, cnt (some (kr, s)) = 1) :
    iprop((bigSep Finset.univ fun s => Item (F := F) c ks s) ∗ bigSep Finset.univ fun s => Item (F := F) c kr s) ⊢ bigSep Finset.univ fun s => Ends (F := F) ks kr s c := by
  rw [← bigSep_sep']
  refine bigSep_mono fun s _ => ?_
  unfold Item Ends
  rw [h1, h2, Nat.one_mul]
  show (iprop(_) : sProp 𝕄) ⊢ iprop(_)
  iintro ⟨⟨H1, H2, -⟩, H3, H4, H5⟩
  isplitl [H1 H3]
  · isplitl [H1] <;> iassumption
  isplitl [H2 H4]
  · isplitl [H2] <;> iassumption
  iexact H5

omit [FloatOps F] in
theorem tickets : iprop((ats (F := F) c ∗ payToks (F := F) c) ∗ bigSep Finset.univ fun i : CI => cred (tallyAt (cellOn c i) () (cnt i * unitC i)))
    ⊢ iprop(BarT (F := F) c ∗ Five c (Ends (F := F))) := by
  unfold ats payToks
  rw [sep_ci, sep_j, sep_ci]
  iintro ⟨⟨⟨HA, Hab⟩, ⟨Htf, Htt⟩, HT⟩, HC, Hcb⟩
  ihave HI := (show iprop((bigSep Finset.univ fun k : Fin 10 => bigSep Finset.univ fun s : Fin 7 => (atPos ER (cellOn c (some (k, s))) 0 ∅ 0 : sProp 𝕄))
      ∗ (bigSep Finset.univ fun k : Fin 10 => bigSep Finset.univ fun s : Fin 7 => dutyTok ER (cellOn (tgt (.inr (k, s)) c) (ciOf (.inr (k, s)))) 0 (dutyOf (.inr (k, s))))
      ∗ bigSep Finset.univ fun k : Fin 10 => bigSep Finset.univ fun s : Fin 7 => cred (tallyAt (cellOn c (some (k, s))) () (cnt (some (k, s)) * unitC (some (k, s)))))
      ⊢ bigSep Finset.univ fun k : Fin 10 => bigSep Finset.univ fun s : Fin 7 => Item (F := F) c k s from by
        unfold Item; simp only [bigSep_sep']; exact .rfl) $$ [HA HT HC]
  · isplitl [HA]; · iexact HA
    isplitl [HT]; · iexact HT
    iexact HC
  ihave HI := (BIBase.Entails.of_eq (ten (fun k => bigSep Finset.univ fun s : Fin 7 => Item (F := F) c k s))) $$ HI
  icases HI with ⟨H0, H1, H2, H3, H4, H5, H6, H7, H8, H9⟩
  isplitl [Hab Htf Htt Hcb]
  · unfold BarT
    isplitl [Htf]; · iexact Htf
    isplitl [Htt]; · iexact Htt
    isplitl [Hcb]; · iexact Hcb
    iexact Hab
  unfold Five
  isplitl [H0 H1]
  · iapply (ends_intro c (rsK false false) (rsK false true) (fun _ => rfl) (fun _ => rfl)); isplitl [H0]; · iexact H0
    iexact H1
  isplitl [H2 H3]
  · iapply (ends_intro c (rsK true false) (rsK true true) (fun _ => rfl) (fun _ => rfl)); isplitl [H2]; · iexact H2
    iexact H3
  isplitl [H8 H9]
  · iapply (ends_intro c (axK false) (axK true) (fun _ => rfl) (fun _ => rfl)); isplitl [H8]; · iexact H8
    iexact H9
  isplitl [H4 H5]
  · iapply (ends_intro c (agK false false) (agK false true) (fun _ => rfl) (fun _ => rfl)); isplitl [H4]; · iexact H4
    iexact H5
  iapply (ends_intro c (agK true false) (agK true true) (fun _ => rfl) (fun _ => rfl)); isplitl [H6]; · iexact H6
  iexact H7

omit [FloatOps F] in
/-- All cells at zero again. -/
theorem shuts : iprop(semVal (barCell c) 0 ∗ Five c (Shut (F := F))) ⊢ bigSep Finset.univ fun i : CI => (semVal (cellOn c i) 0 : sProp 𝕄) := by
  unfold Five Shut
  rw [sep_ci, ten]
  simp only [bigSep_sep']
  iintro ⟨HB, ⟨H0, H1⟩, ⟨H2, H3⟩, ⟨H8, H9⟩, ⟨H4, H5⟩, H6, H7⟩
  isplitr [HB]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexact HB

end Cert.KernelIdeal.Ring

end
-- ==== Proof.BodyEq.lean ====
/- The printed body is the chain of steps: the same operations in the same order. -/
module

public import proofs.«01_k».proof.Proof.Steps
public import proofs.«01_k».proof.Proof.Gen.KernelIdeal.Launch

@[expose] public section

noncomputable section

namespace Cert.KernelIdeal.Ring

open Cert.KernelIdeal Cert.KernelIdeal.Gen
open Idealize.ShloMosaic Idealize.ShloMosaic.TcCoe Idealize.SL.Sem

variable {F : FTy → Type} [FloatOps F]

set_option maxRecDepth 65536 in
set_option maxHeartbeats 0 in
theorem bodyAt_eq (t : Fin cfg0.N) : bodyAt0 (F := F) t = .op .deviceId fun d => bodyOn d := by
  obtain rfl : t = t0_0 := Fin.ext (by have := t.isLt; have h : cfg0.N = 1 := by decide
                                       omega)
  rfl

end Cert.KernelIdeal.Ring

end
-- ==== Proof.Launch.lean ====
/- The run of the whole program: the body's obligation, the launch, the final memory. -/
module

public import proofs.«01_k».proof.Proof.Setup
public import proofs.«01_k».proof.Proof.BodyEq
public import Idealize.ShloMosaic.Lib.Pipeline.CollectiveSegs

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What is held before the body and after it -/

abbrev s₀ : MemSt nD τ sig (Elt F) := ⟨m, fun _ => 0, ρ⟩
/-- Device `d`'s blocks of x and w, as staged. -/
abbrev xsOf (d : Dev nD) : (cc0_stg0_0 : Ref sig .tc).ty.Contents (Elt F) := (win0_0.blk (0 : Fin 1)).view.read (Elt F) (m ((d : Thread nD τ).loc main_arg0))
abbrev wsOf (d : Dev nD) : (cc0_stg1_0 : Ref sig .tc).ty.Contents (Elt F) := (win0_1.blk (0 : Fin 1)).view.read (Elt F) (m ((d : Thread nD τ).loc main_arg1))

/-- Held on the way in, besides the scratch buffers. -/
def start (c : Dev nD) : sProp 𝕄 :=
  iprop((Rec (xsOf m) (wsOf m) ∗ levAts L lv) ∗ some' (F := F) c outM ∗ (BarT (F := F) c ∗ Five c (Ends (F := F))) ∗ St6 (F := F) c)
def Φ₀ (c : Dev nD) : sProp 𝕄 := iprop(start m c ∗ Bufs (F := F) c)
/-- Held on the way out. -/
def Φ₁ (c : Dev nD) : sProp 𝕄 :=
  iprop(Bufs (F := F) c ∗ owns (c : Thread nD τ) outM fullShare (outAll (xsOf m) (wsOf m)) ∗ semVal (barCell c) 0 ∗ Five c (Shut (F := F)) ∗ St6 (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xsOf m c
    | ⟨1, _⟩ => wsOf m c
  Φ t := match t with
    | ⟨0, _⟩ => Φ₀ m c
    | ⟨_ + 1, _⟩ => Φ₁ m c
  q _ := fullShare
  owed t := match t with
    | ⟨0, _⟩ => O c 0
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

/-! ## The body -/

abbrev tt : Fin cfg0.N := t0_0

def bodyPre (c : Dev nD) : sProp 𝕄 :=
  iprop(Φ₀ m c ∗ (dats m ρ 0 c).owesAt () tt.castSucc
    ∗ (∃ d, owns (c : Thread nD τ) (Memref.whole cc0_stg0_0) fullShare ((dats m ρ 0 c).before (0 : Fin 2) tt d))
    ∗ (∃ d, owns (c : Thread nD τ) (Memref.whole cc0_stg1_0) fullShare ((dats m ρ 0 c).before (1 : Fin 2) tt d)))
def bodyPost (c : Dev nD) : sProp 𝕄 :=
  iprop(Φ₁ m c ∗ (dats m ρ 0 c).owesAt () tt.succ ∗ owns (c : Thread nD τ) (Memref.whole cc0_stg0_0) fullShare (xsOf m c)
    ∗ owns (c : Thread nD τ) (Memref.whole cc0_stg1_0) fullShare (wsOf m c))

theorem sound_body (c : Dev nD) : bodyPre m ρ c ⊢ W c (fun _ => bodyPost m ρ c) (bodyOn c) := by
  unfold bodyPre Φ₀ start
  iintro ⟨⟨⟨⟨#HR, #HL⟩, Hout, ⟨HB, HF⟩, HS⟩, Hb⟩, Ho, ⟨%d0, Hx⟩, ⟨%d1, Hw⟩⟩
  rw [show (dats m ρ 0 c).before (0 : Fin 2) tt d0 = xsOf m c from by unfold Dat.before; rw [if_pos (fetch0_0 tt)]; rfl,
    show (dats m ρ 0 c).before (1 : Fin 2) tt d1 = wsOf m c from by unfold Dat.before; rw [if_pos (fetch0_1 tt)]; rfl]
  unfold Dat.owesAt Pipeline.owesWithin
  icases Ho with ⟨%Wt, %hW, HO⟩
  iapply (body_wp c (xsOf m) (wsOf m)) $$ [Hout HB HF HS Hb Hx Hw HO]
  · isplitr; · iexact HR
    isplitr; · iexact HL
    isplitl [Hx Hw]
    · unfold XW
      isplitl [Hx]; · iexact Hx
      iexact Hw
    isplitl [Hb]; · iexact Hb
    isplitl [Hout]; · iexact Hout
    isplitl [HB]; · iexact HB
    isplitl [HF]; · iexact HF
    isplitl [HS]; · iexact HS
    unfold Ow
    iexists Wt
    iexact HO
  unfold bodyPost Φ₁ XW Ow
  iintro ⟨⟨Hx, Hw⟩, Hb, Hout, Hbar, HF, HS, ⟨%W', HO⟩⟩
  isplitl [Hb Hout Hbar HF HS]
  · isplitl [Hb]; · iexact Hb
    isplitl [Hout]; · iexact Hout
    isplitl [Hbar]; · iexact Hbar
    isplitl [HF]; · iexact HF
    iexact HS
  isplitl [HO]
  · unfold Dat.owesAt Pipeline.owesWithin
    iexists W'
    isplitr; · ipureintro; exact fun _ _ => Or.inl trivial
    iexact HO
  isplitl [Hx]; · iexact Hx
  iexact Hw

set_option maxRecDepth 200000 in
theorem body_obligation (c : Dev nD) : BodyObligation (dats (F := F) m ρ 0 c) (defs₀ (F := F)) 𝒱₀ () Set.univ := fun t => by
  rw [fin_N0 t]
  rw [bigSep_W, bigSep_W]
  show bodyPre m ρ c ⊢ wp frame (wpE (defs₀ (F := F)) 𝒱₀ c none) Set.univ (bodyAt0 tt) (fun _ => bodyPost m ρ c)
  rw [bodyAt_eq, wp_deviceId]
  exact sound_body m ρ c

/-! ## The launch's conditions -/

theorem some_whole (c : Dev nD) (b : Ref sig .tc) :
    some' (F := F) c (Memref.whole b) ⊣⊢ iprop(∃ f : Buf (Elt F) ((c : Thread nD τ).loc b), ((c : Thread nD τ).loc b) ↦{fullShare} f) := by
  have h := some_pts (F := F) c (Memref.whole b)
  simp only [Memref.view_whole, View.set_whole] at h
  exact h

theorem bufs_eq (c : Dev nD) : (Pipeline.scopedRest cfg0.spec c : sProp 𝕄) ⊣⊢ Bufs (F := F) c := by
  rw [show (Pipeline.scopedRest cfg0.spec c : sProp 𝕄) = _ from scopedRest0_eq c]
  rw [show Bufs (F := F) c = iprop(some' (F := F) c (Memref.whole cc0_scratch0) ∗ some' (F := F) c (Memref.whole cc0_scratch1) ∗ some' (F := F) c (Memref.whole cc0_scratch2) ∗ some' (F := F) c (Memref.whole cc0_scratch3) ∗ some' (F := F) c (Memref.whole cc0_scratch4) ∗ some' (F := F) c (Memref.whole cc0_scratch5) ∗ some' (F := F) c (Memref.whole cc0_scratch6) ∗ some' (F := F) c (Memref.whole cc0_scratch7) ∗ some' (F := F) c (Memref.whole cc0_scratch8) ∗ some' (F := F) c (Memref.whole cc0_scratch9)) from rfl]
  constructor
  · iintro ⟨H0, H1, H2, H3, H4, H5, H6, H7, H8, H9⟩
    isplitl [H0]; · iapply (some_whole c cc0_scratch0).2 $$ H0
    isplitl [H1]; · iapply (some_whole c cc0_scratch1).2 $$ H1
    isplitl [H2]; · iapply (some_whole c cc0_scratch2).2 $$ H2
    isplitl [H3]; · iapply (some_whole c cc0_scratch3).2 $$ H3
    isplitl [H4]; · iapply (some_whole c cc0_scratch4).2 $$ H4
    isplitl [H5]; · iapply (some_whole c cc0_scratch5).2 $$ H5
    isplitl [H6]; · iapply (some_whole c cc0_scratch6).2 $$ H6
    isplitl [H7]; · iapply (some_whole c cc0_scratch7).2 $$ H7
    isplitl [H8]; · iapply (some_whole c cc0_scratch8).2 $$ H8
    iapply (some_whole c cc0_scratch9).2 $$ H9
  · iintro ⟨H0, H1, H2, H3, H4, H5, H6, H7, H8, H9⟩
    isplitl [H0]; · iapply (some_whole c cc0_scratch0).1 $$ H0
    isplitl [H1]; · iapply (some_whole c cc0_scratch1).1 $$ H1
    isplitl [H2]; · iapply (some_whole c cc0_scratch2).1 $$ H2
    isplitl [H3]; · iapply (some_whole c cc0_scratch3).1 $$ H3
    isplitl [H4]; · iapply (some_whole c cc0_scratch4).1 $$ H4
    isplitl [H5]; · iapply (some_whole c cc0_scratch5).1 $$ H5
    isplitl [H6]; · iapply (some_whole c cc0_scratch6).1 $$ H6
    isplitl [H7]; · iapply (some_whole c cc0_scratch7).1 $$ H7
    isplitl [H8]; · iapply (some_whole c cc0_scratch8).1 $$ H8
    iapply (some_whole c cc0_scratch9).1 $$ H9

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xsOf m) (wsOf m) c)
      ⊢ |={Set.univ}=> iprop(start m c ∗ emp) := by
  rw [Pipeline.unscopedRestP_none, show (Pipeline.unscopedRest cfg0.spec c (fun b => m ((c : Thread nD τ).loc b)) : sProp 𝕄) = _ from unscopedRest0_eq c _]
  unfold start G'
  iintro ⟨Hv, HL, Hcr, -, HR, Hg, HS⟩
  ihave Hc := (creds (F := F) c) $$ Hcr
  ihave HT := (tickets (F := F) c) $$ [Hg Hc]
  · isplitl [Hg] <;> iassumption
  imodintro
  isplitl
  · isplitl [HR HL]
    · isplitl [HR] <;> iassumption
    isplitl [Hv]
    · iapply (some_whole c main_v1).2
      iexists _; iexact Hv
    isplitl [HT]; · iexact HT
    iexact HS
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (bufs_eq c).1 $$ Hr

/-- Kept past the region: the unscoped semaphore and the result. -/
def Yo (c : Dev nD) : sProp 𝕄 :=
  iprop(unscopedSems0 c ∗ (((c : Thread nD τ).loc main_v1) ↦{fullShare} (outAll (xsOf m) (wsOf m) : Buf (Elt F) ((c : Thread nD τ).loc main_v1))))

theorem phi1_exit (c : Dev nD) :
    (dats m ρ 0 c).Φ (Fin.last cfg0.N) ⊢ iprop(Yo m c ∗ Pipeline.ownSems0 osem c ∗ Pipeline.scopedRest cfg0.spec c) := by
  rw [show (dats m ρ 0 c).Φ (Fin.last cfg0.N) = Φ₁ m c from rfl]
  unfold Φ₁ Yo owns
  simp only [Memref.view_whole, View.read_whole, View.set_whole]
  iintro ⟨Hb, ⟨%f, %hf, Hout⟩, Hbar, HF, HS⟩
  ihave Hci := (shuts (F := F) c) $$ [Hbar HF]
  · isplitl [Hbar] <;> iassumption
  ihave Hs := (sems0_eq (F := F) c).2 $$ [Hci HS]
  · isplitl [Hci] <;> iassumption
  icases Hs with ⟨Hos, Hus⟩
  isplitl [Hus Hout]
  · isplitl [Hus]; · iexact Hus
    subst hf
    iexact Hout
  isplitl [Hos]; · iexact Hos
  iapply (bufs_eq c).2 $$ Hb

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 (by fin_cases w <;> fin_cases s <;> decide +kernel)
    · exact mayWait c _ 37 (by fin_cases w <;> fin_cases s <;> decide +kernel)

theorem share_eq (c : Dev nD) (w : Fin cfg0.W) : (dats m ρ 0 c).share w = fullShare := by unfold Dat.share; split <;> rfl

/-! ## The run -/

theorem final_arg (c : Dev nD) (w : Fin cfg0.W) : (dats m ρ 0 c).arrAt w cfg0.N = m ((cfg0.win w).arr.view.loc (c : Thread nD τ)) :=
  (dats (F := F) m ρ 0 c).arrAt_in w (by fin_cases w <;> rfl) _

set_option maxRecDepth 200000 in
/-- From any memory with zero counters, for any float values: every weakly fair execution of @main terminates, and every final
    state has each device's result at the computed contents, both operands unchanged and every semaphore at zero. -/
theorem run_main : θ_run defs (onTc (τ := τ) (main (F := F))) (s₀ m ρ) (fun r => (∀ c : Dev nD,
      r.2.mem ((c : Thread nD τ).loc main_v1) = (outAll (xsOf m) (wsOf m) : Buf (Elt F) ((c : Thread nD τ).loc main_v1))
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xsOf m) (wsOf m)) (G' := G' (xsOf m) (wsOf m)) (u₀ := u₀)
    (hu₀ := by
      unfold u₀
      iintro Hu
      ihave H := (ownU_split _ _) $$ Hu
      icases H with ⟨HP, HX⟩
      imod (fund_ring (xsOf m) (wsOf m)) $$ HX with HG
      imodintro
      isplitl [HP] <;> iassumption)
    (hglob := glob (xsOf m) (wsOf m))
    (hA := fun _ _ => rfl) (hpf := fun _ k => k.elim0)
    (X := start m) (Y := Yo m) (Z := fun _ => iprop(emp))
    (hX := start_intro m ρ) (hin := phi0_intro m ρ) (hout := phi1_exit m ρ)
    (QY := fun c s => s.mem ((c : Thread nD τ).loc main_v1) = (outAll (xsOf m) (wsOf m) : Buf (Elt F) ((c : Thread nD τ).loc main_v1))
      ∧ ∀ sm : SemLoc sig, sm.isScoped .tc = false → s.sem ((c.tc : Thread nD τ), sm) = 0)
    (hY := fun c s' => by
      unfold Yo
      iintro ⟨⟨Hu, Hv⟩, -, HSI⟩
      icombine HSI Hv gives %hv
      imod (Pipeline.unscopedSems0_read (X := unscopedSems0 c) (c := c) fupd_intro s') $$ [Hu HSI] with ⟨%hu, HSI⟩
      · isplitl [Hu] <;> iassumption
      imodintro
      isplitr
      · ipureintro; exact ⟨Buf.eq_of_forall_mem_univ hv, hu⟩
      iexact HSI)
    (hQ := fun _ h hs => ⟨fun c => ⟨(h c).2.2.1, ((h c).1 (0 : Fin 2)).trans (final_arg m ρ c 0), ((h c).1 (1 : Fin 2)).trans (final_arg m ρ c 1)⟩,
      sem_eq_zero hs fun c => (h c).2.2.2⟩)

end Cert.KernelIdeal.Ring

end
-- ==== Proof.Staged.lean ====
/- A device's staged arrays are its arguments: each window is its whole array. -/
module

public import proofs.«01_k».proof.Proof.Launch

@[expose] public section

noncomputable section

namespace Cert.KernelIdeal.Ring

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ)

theorem xsOf_apply (d : Dev nD) (i : S4096x512.Idx) : xsOf m d i = m ((d : Thread nD τ).loc main_arg0) i := by
  refine congrArg (m ((d : Thread nD τ).loc main_arg0)) (funext fun a => Fin.ext ?_)
  fin_cases a
  · show 0 * 4096 + 1 * (i 0).val = (i 0).val; omega
  · show 0 * 512 + 1 * (i 1).val = (i 1).val; omega
theorem wsOf_apply (d : Dev nD) (i : S512x2048.Idx) : wsOf m d i = m ((d : Thread nD τ).loc main_arg1) i := by
  refine congrArg (m ((d : Thread nD τ).loc main_arg1)) (funext fun a => Fin.ext ?_)
  fin_cases a
  · show 0 * 512 + 1 * (i 0).val = (i 0).val; omega
  · show 0 * 2048 + 1 * (i 1).val = (i 1).val; omega

end Cert.KernelIdeal.Ring
-- ==== Proof.Sums.lean ====
/- The sums over the ring: a device's chunk is a product over its 512 columns of x, and what the ring leaves with a chunk's owner is the product over all 4096. -/
module

public import proofs.«01_k».proof.Proof.Parts
public import Idealize.ShloMosaic.PureOps.Ideal.Laws
public import Idealize.ShloMosaic.Lib.ValueIdx
public import Idealize.ShloMosaic.Lib.ValueIdxCore

@[expose] public section

noncomputable section

namespace Cert.KernelIdeal.Ring

open Cert.KernelIdeal Cert.KernelIdeal.Gen
open Idealize.ShloMosaic Idealize.ShloMosaic.TcCoe Idealize.SL.Sem
open Idealize.ShloMosaic.ValueIdx (contrEquiv1)

/-! ## Around the ring -/

section Ring
variable {F : FTy → Type} [FloatOps F]

/-- The chunk a device at a place works on before its first step and after each. -/
def cI (b : Bool) (p : Fin 8) (n : ℕ) : Fin 8 := match n with | 0 => p | s + 1 => chI b p s

theorem cI_pv (b : Bool) (d : Dev nD) (n : Fin 7) : cI b (pos (pv b d)) n.val = cI b (pos d) (n.val + 1) := by
  revert b d n; decide
theorem cI_owner (b : Bool) (g : Fin 8) : cI b (pos (owner b g)) 7 = g := by revert b g; decide
theorem owner_cI (b : Bool) (d : Dev nD) : owner b (cI b (pos d) 7) = d := by revert b d; decide

/-- Going back round the ring eight times from any device one passes every device once. -/
theorem back_bijective (b : Bool) (d : Dev nD) : Function.Bijective fun k : Fin 8 => (pv b)^[k.val] d := by
  have h : ∀ (b : Bool) (d : Dev nD) (k k' : Fin 8), (pv b)^[k.val] d = (pv b)^[k'.val] d → k = k' := by decide +kernel
  exact (Fintype.bijective_iff_injective_and_card _).mpr ⟨fun k k' => h b d k k', rfl⟩

end Ring

/-! ## The places in the whole arrays -/

/-- Row `r` of block `g`, column `l` of half `b`. -/
def row (g : Fin 8) (r : Fin 512) : Fin 4096 := ⟨512 * g.val + r.val, by omega⟩
def col (b : Bool) (l : Fin 1024) : Fin 2048 := ⟨colO b + l.val, by cases b <;> simp only [colO] <;> omega⟩
/-- Position `j` of device `d`'s part of the contracted axis. -/
def con (d : Dev nD) (j : Fin 512) : Fin 4096 := ⟨d.val * 512 + j.val, by have : d.val < 8 := d.isLt; omega⟩

theorem con_sum (f : Fin 4096 → EReal) : ∑ d : Dev nD, ∑ j : Fin 512, f (con d j) = ∑ k : Fin 4096, f k := by
  rw [← Fintype.sum_prod_type' (f := fun (d : Dev nD) (j : Fin 512) => f (con d j))]
  refine Fintype.sum_equiv (finProdFinEquiv (m := 8) (n := 512)) _ _ fun p => congrArg f (Fin.ext ?_)
  show p.1.val * 512 + p.2.val = p.2.val + 512 * p.1.val
  omega

/-! ## The chunks -/

variable (xs : Dev nD → (cc0_stg0_0 : Ref sig .tc).ty.Contents (Elt Ideal)) (ws : Dev nD → (cc0_stg1_0 : Ref sig .tc).ty.Contents (Elt Ideal))

/-- An entry of a device's x, and of its w. -/
def xAt (d : Dev nD) (r : Fin 4096) (k : Fin 512) : EReal := xs d (ix2 r k : S4096x512.Idx)
def wAt (d : Dev nD) (k : Fin 512) (n : Fin 2048) : EReal := ws d (ix2 k n : S512x2048.Idx)

/-- A block of 512 rows times a half of the columns, at an index. -/
theorem chunkV_apply (xv : Vec Ideal S512x512 .f32) (wv : Vec Ideal S512x1024 .f32) (r : Fin 512) (l : Fin 1024) :
    chunkV (F := Ideal) xv wv (ix2 r l) = ∑ k : Fin 512, (xv (ix2 r k) : EReal) * (wv (ix2 k l) : EReal) := by
  unfold chunkV
  simp only [shapeCast_self, matmul]
  rw [Ideal.matmul_constant_zero_apply]
  refine Fintype.sum_equiv (contrEquiv1 dot_S512x512_S512x1024_S512x1024_1_0_0_1_n_n 512 rfl rfl) _ _ fun k => ?_
  congr 2 <;> (funext a; fin_cases a <;> rfl)

theorem pch_apply (b : Bool) (d : Dev nD) (g : Fin 8) (r : Fin 512) (l : Fin 1024) :
    pch xs ws b d g (ix2 r l)
      = ∑ k : Fin 512, xAt xs d (row g r) k * wAt ws d k (col b l) := by
  unfold pch
  rw [chunkV_apply]
  refine Finset.sum_congr rfl fun k _ => congrArg₂ (fun u v : EReal => u * v) ?_ ?_
  · refine congrArg (xs d) (funext fun a => Fin.ext ?_)
    rw [Rect.emb_apply]
    fin_cases a
    · show 512 * g.val + 1 * r.val = 512 * g.val + r.val; omega
    · show 0 + 1 * k.val = k.val; omega
  · refine congrArg (ws d) (funext fun a => Fin.ext ?_)
    rw [Rect.emb_apply]
    fin_cases a
    · cases b <;> (show 0 + 1 * k.val = k.val; omega)
    · cases b
      · show 0 + 1 * l.val = 0 + l.val; omega
      · show 1024 + 1 * l.val = 1024 + l.val; omega

/-- What is sent in step `n` is the sum of the chunks of the devices behind. -/
theorem sent_sum (b : Bool) : ∀ (n : ℕ), n ≤ 7 → ∀ (d : Dev nD) (i : S512x1024.Idx),
    (sent xs ws b n d i : EReal) = ∑ k ∈ Finset.range (n + 1), (pch xs ws b ((pv b)^[k] d) (cI b (pos d) n) i : EReal)
  | 0, _, d, i => by rw [Finset.sum_range_one]; rfl
  | n + 1, h, d, i => by
    rw [Finset.sum_range_succ']
    show (sent xs ws b n (pv b d) i : EReal) + pch xs ws b d (chI b (pos d) n) i = _
    rw [sent_sum b n (by omega) (pv b d) i, cI_pv b d ⟨n, by omega⟩]
    rfl

/-- So the ring leaves with a chunk's owner the sum over all devices. -/
theorem sent_all (b : Bool) (g : Fin 8) (i : S512x1024.Idx) :
    (sent xs ws b 7 (owner b g) i : EReal) = ∑ d : Dev nD, (pch xs ws b d g i : EReal) := by
  rw [sent_sum xs ws b 7 le_rfl, cI_owner, Finset.sum_range]
  exact Fintype.sum_bijective _ (back_bijective b (owner b g)) _ _ fun k => rfl

/-! ## The whole product -/

/-- The whole product x · w at a place. -/
def whole (X : (⟨2, ![4096, 4096]⟩ : Shape).Idx → EReal) (W : (⟨2, ![4096, 2048]⟩ : Shape).Idx → EReal) (r : Fin 4096) (n : Fin 2048) : EReal :=
  ∑ k : Fin 4096, X (ix2 r k) * W (ix2 k n)

/-- With the devices' arrays the blocks of X and W, a chunk's owner holds the whole product's block. -/
theorem sent_whole (X : (⟨2, ![4096, 4096]⟩ : Shape).Idx → EReal) (W : (⟨2, ![4096, 2048]⟩ : Shape).Idx → EReal)
    (hx : ∀ d (r : Fin 4096) (j : Fin 512), xAt xs d r j = X (ix2 r (con d j)))
    (hw : ∀ d (j : Fin 512) (n : Fin 2048), wAt ws d j n = W (ix2 (con d j) n))
    (b : Bool) (g : Fin 8) (r : Fin 512) (l : Fin 1024) :
    (sent xs ws b 7 (owner b g) (ix2 r l) : EReal) = whole X W (row g r) (col b l) := by
  rw [sent_all]
  unfold whole
  rw [← con_sum]
  refine Finset.sum_congr rfl fun d _ => ?_
  rw [pch_apply]
  exact Finset.sum_congr rfl fun j _ => by rw [hx, hw]

end Cert.KernelIdeal.Ring
-- ==== Proof.Quantise.lean ====
/- The quantiser on extended reals: the kernel's (multiply by 127 over the maximum, round, clip, through int8 and back) gives what the reference's does (divide by the scale, round, clip). -/
module

public import Idealize.ShloMosaic.PureOps.Ideal.Laws

@[expose] public section

noncomputable section

namespace Cert.KernelIdeal.Ring

open Idealize.ShloMosaic

/-! ## The constants -/

theorem bits_127 : Ideal.ofBits .f32 0x42FE0000#32 = ((127 : ℝ) : EReal) := by
  simp [Ideal.ofBits, Ideal.ieee]; norm_num
  rw [← EReal.coe_mul]; norm_num
theorem bits_m127 : Ideal.ofBits .f32 0xC2FE0000#32 = ((-127 : ℝ) : EReal) := by
  simp [Ideal.ofBits, Ideal.ieee]; norm_num
  rw [← EReal.coe_mul]; norm_num
theorem bits_bot : Ideal.ofBits .f32 0xFF800000#32 = (⊥ : EReal) := by
  simp [Ideal.ofBits, Ideal.ieee]

/-! ## Rounding, clipping, the int8 format -/

/-- To the nearest integer, clipped to between -127 and 127. -/
def clipR (t : EReal) : EReal := min ((127 : ℝ) : EReal) (max ((-127 : ℝ) : EReal) (Ideal.liftRound Ideal.roundHalfEven t))

/-- It is one of those integers, whatever it is taken of. -/
theorem clipR_int (t : EReal) : ∃ n : ℤ, -127 ≤ n ∧ n ≤ 127 ∧ clipR t = ((n : ℝ) : EReal) := by
  induction t using EReal.rec with
  | bot => exact ⟨-127, by norm_num, by norm_num, by
      rw [clipR, Ideal.liftRound_bot, max_eq_left bot_le, min_eq_right (by exact_mod_cast (by norm_num : (-127 : ℝ) ≤ 127))]; norm_num⟩
  | top => exact ⟨127, by norm_num, by norm_num, by
      rw [clipR, Ideal.liftRound_top, max_eq_right le_top, min_eq_left le_top]; norm_num⟩
  | coe r =>
    refine ⟨min 127 (max (-127) (Ideal.roundHalfEven r)), le_min (by norm_num) (le_max_left _ _), min_le_left _ _, ?_⟩
    rw [clipR, Ideal.liftRound_coe, ← EReal.coe_strictMono.monotone.map_max, ← EReal.coe_strictMono.monotone.map_min]
    push_cast; rfl

/-- Into int8 and back such an integer is itself. -/
theorem int8_round_trip (n : ℤ) (h : -127 ≤ n) (h' : n ≤ 127) :
    (((Ideal.fptosi 8 ((n : ℝ) : EReal)).toInt : ℝ) : EReal) = ((n : ℝ) : EReal) := by
  have e : Ideal.toIntClamped (-(2 ^ (8 - 1) : ℕ)) ((2 ^ (8 - 1) : ℕ) - 1) ((n : ℝ) : EReal) = n := by
    rw [Ideal.toIntClamped_coe, Int.floor_intCast, Int.ceil_intCast, ite_self]
    norm_num; omega
  rw [Ideal.fptosi, e, BitVec.toInt_ofInt]
  congr 2
  rw [Int.bmod_def]; omega

theorem int8_clipR (t : EReal) : (((Ideal.fptosi 8 (clipR t)).toInt : ℝ) : EReal) = clipR t := by
  obtain ⟨n, h, h', e⟩ := clipR_int t
  rw [e]; exact int8_round_trip n h h'

theorem clipR_zero : clipR 0 = 0 := by
  have h0 : Ideal.liftRound Ideal.roundHalfEven 0 = 0 := by
    rw [show (0 : EReal) = ((0 : ℝ) : EReal) from rfl, Ideal.liftRound_coe]
    norm_num [Ideal.roundHalfEven]
  rw [clipR, h0, max_eq_right (by exact_mod_cast (by norm_num : (-127 : ℝ) ≤ 0)), min_eq_right (by exact_mod_cast (by norm_num : (0 : ℝ) ≤ 127))]

/-! ## The two quantisers -/

/-- At no more than the maximum in size, the two quantisers agree after the scale is multiplied back: at a maximum of
    zero and at an infinite one both products are zero, at a real one the factors are equal. -/
theorem quantise_eq (y a : EReal) (h : max y (-y) ≤ a) :
    clipR (y * Ideal.div ((127 : ℝ) : EReal) a) * Ideal.div a ((127 : ℝ) : EReal)
      = clipR (Ideal.div y (Ideal.div a ((127 : ℝ) : EReal))) * Ideal.div a ((127 : ℝ) : EReal) := by
  have ha : 0 ≤ a := by
    refine le_trans ?_ h
    rcases le_total 0 y with h0 | h0
    · exact le_trans h0 (le_max_left _ _)
    · exact le_trans (EReal.neg_nonneg.mpr h0) (le_max_right _ _)
  induction a using EReal.rec with
  | bot => exact absurd ha (by simp)
  | top =>
    have e1 : Ideal.div ((127 : ℝ) : EReal) ⊤ = 0 := by
      rw [Ideal.div, if_neg (by simp), EReal.inv_top, mul_zero]
    have e2 : Ideal.div ⊤ ((127 : ℝ) : EReal) = ⊤ := by
      rw [Ideal.div_coe (by norm_num), EReal.top_mul_coe_of_pos (by norm_num)]
    have e3 : Ideal.div y ⊤ = 0 := by
      rw [Ideal.div, if_neg (by simp), EReal.inv_top, mul_zero]
    rw [e1, e2, e3, mul_zero]
  | coe r =>
    rcases eq_or_ne r 0 with rfl | hr
    · have e : Ideal.div ((0 : ℝ) : EReal) ((127 : ℝ) : EReal) = 0 := by
        rw [Ideal.div_coe (by norm_num), EReal.coe_zero, zero_mul]
      rw [e, mul_zero, mul_zero]
    · have e : Ideal.div ((r : ℝ) : EReal) ((127 : ℝ) : EReal) = ((r * (1 / 127) : ℝ) : EReal) := by
        rw [Ideal.div_coe (by norm_num), EReal.coe_mul]
      have e' : Ideal.div y ((r * (1 / 127) : ℝ) : EReal) = y * Ideal.div ((127 : ℝ) : EReal) ((r : ℝ) : EReal) := by
        rw [Ideal.div_coe (mul_ne_zero hr (by norm_num)), Ideal.div_coe hr, ← EReal.coe_mul]
        congr 2; field_simp
      rw [e, e']

end Cert.KernelIdeal.Ring
-- ==== Proof.Maxima.lean ====
/- The maximum of the absolute values: what the devices exchange, and what the reference takes over the whole product, lie under the same bounds and so are equal. -/
module

public import proofs.«01_k».proof.Proof.Sums
public import proofs.«01_k».proof.Proof.Quantise
public import Idealize.ShloMosaic.PureOps.Reduce

@[expose] public section

noncomputable section

namespace Cert.KernelIdeal.Ring

open Cert.KernelIdeal Cert.KernelIdeal.Gen
open Idealize.ShloMosaic Idealize.ShloMosaic.TcCoe Idealize.SL.Sem

/-! ## A maximum over everything -/

/-- A fold of the maximum from minus infinity lies under a bound exactly when every element does. -/
theorem fold_max_bot_le {A : Type} (s : Finset A) (f : A → EReal) (z : EReal) :
    s.fold (FloatOps.maximumf (F := Ideal) (φ := .f32)) (Ideal.ofBits .f32 0xFF800000#32) f ≤ z ↔ ∀ i ∈ s, f i ≤ z := by
  rw [bits_bot]
  show s.fold max ⊥ f ≤ z ↔ _
  rw [Finset.fold_max_le]
  exact ⟨fun h => h.2, fun h => ⟨bot_le, h⟩⟩

theorem S1_size : ∀ a, S1.size a = 1 := by decide
theorem S1_one (i j : S1.Idx) : i = j :=
  funext fun a => Fin.ext (by
    have hi := (i a).isLt; have hj := (j a).isLt
    have e := S1_size a
    omega)

/-- A reduction to one element, by its bounds. -/
theorem reduction_le {s : Shape} {axes : List (Fin s.rank)} (v : FVec Ideal s .f32) (h : s.Reduces axes S1) (hφ : FKind.Formats .f32)
    (hacc : (0xFF800000#32 : BitVec FTy.f32.bits) = FKind.maximumf.neutral .f32 hφ) (j : S1.Idx) (z : EReal) :
    (multiReduction .maximumf axes S1 v 0xFF800000#32 h hφ hacc j : EReal) ≤ z ↔ ∀ i, (v i : EReal) ≤ z := by
  rw [multiReduction_maximumf_eq_fold]
  refine (fold_max_bot_le _ v z).trans ⟨fun H i => H i (Finset.mem_filter.mpr ⟨Finset.mem_univ _, S1_one _ _⟩), fun H i _ => H i⟩

/-- A bound on all elements is one on all elements in another shape. -/
theorem shapeCast_le {s t : Shape} (v : s.Idx → EReal) (h : s.ShapeCasts t) (z : EReal) :
    (∀ i, shapeCast t v h i ≤ z) ↔ ∀ i, v i ≤ z :=
  ⟨fun H i => by have := H ((Shape.reshapeEquiv h).symm i); rwa [shapeCast, Equiv.apply_symm_apply] at this, fun H i => H _⟩

/-! ## The devices' maxima -/

section Any
variable {F : FTy → Type} [FloatOps F]

/-- The one element a reduction of a block leaves; and of the devices' maxima. -/
def topB (v : FVec F S1x512x1024 .f32) : F .f32 :=
  extractAt ![0, 0, 0] (shapeCast S1x1x1 (multiReduction .maximumf [1, 2] S1 v 0xFF800000#32 reduces_S1x512x1024_S1 (.inl rfl) rfl) shapeCasts_S1_S1x1x1)
    inpos_S1x1x1_p0_0_0
def topA (v : FVec F S1x8x128 .f32) : F .f32 :=
  extractAt ![0, 0, 0] (shapeCast S1x1x1 (multiReduction .maximumf [1, 2] S1 v 0xFF800000#32 reduces_S1x8x128_S1 (.inl rfl) rfl) shapeCasts_S1_S1x1x1)
    inpos_S1x1x1_p0_0_0
/-- The absolute values of a block. -/
def absB (u : Vec F S1x512x1024 .f32) : FVec F S1x512x1024 .f32 :=
  shapeCast S1x512x1024 (absf (shapeCast S512x1024 u shapeCasts_S1x512x1024_S512x1024 : FVec F S512x1024 .f32)) shapeCasts_S512x1024_S1x512x1024

theorem pay41_top (v : Vec F S8x128 .f32) : k0_pay41 v = topA (shapeCast S1x8x128 v shapeCasts_S8x128_S1x8x128 : FVec F S1x8x128 .f32) := rfl
theorem pay38_top (u v : Vec F S1x512x1024 .f32) : k0_pay38 u v = Scalar.maximumf (topB (absB u)) (topB (absB v)) := rfl
theorem pay40_row (u v : Vec F S1x512x1024 .f32) (j : S1x128.Idx) : k0_pay40 u v j = k0_pay38 u v := rfl

end Any

theorem scalar_max (a b : Ideal .f32) : (Scalar.maximumf a b : Ideal .f32) = max (a : EReal) (b : EReal) := rfl

theorem topB_le (v : FVec Ideal S1x512x1024 .f32) (z : EReal) : (topB v : EReal) ≤ z ↔ ∀ i, (v i : EReal) ≤ z :=
  reduction_le v reduces_S1x512x1024_S1 (.inl rfl) rfl ((Shape.reshapeEquiv shapeCasts_S1_S1x1x1) fun a => ⟨![0, 0, 0] a, inpos_S1x1x1_p0_0_0 a⟩) z
theorem topA_le (v : FVec Ideal S1x8x128 .f32) (z : EReal) : (topA v : EReal) ≤ z ↔ ∀ i, (v i : EReal) ≤ z :=
  reduction_le v reduces_S1x8x128_S1 (.inl rfl) rfl ((Shape.reshapeEquiv shapeCasts_S1_S1x1x1) fun a => ⟨![0, 0, 0] a, inpos_S1x1x1_p0_0_0 a⟩) z

theorem pay41_le (v : Vec Ideal S8x128 .f32) (z : EReal) : (k0_pay41 (F := Ideal) v : EReal) ≤ z ↔ ∀ i, (v i : EReal) ≤ z := by
  rw [pay41_top]
  exact (topA_le _ z).trans (shapeCast_le v shapeCasts_S8x128_S1x8x128 z)

theorem half_le (w : FVec Ideal S512x1024 .f32) (z : EReal) :
    (topB (F := Ideal) (absB (shapeCast S1x512x1024 w shapeCasts_S512x1024_S1x512x1024 : FVec Ideal S1x512x1024 .f32)) : EReal) ≤ z
      ↔ ∀ i, max (w i : EReal) (-(w i : EReal)) ≤ z := by
  unfold absB
  rw [shapeCast_shapeCast]
  exact (topB_le _ z).trans (shapeCast_le (fun i => max (w i : EReal) (-(w i : EReal))) shapeCasts_S512x1024_S1x512x1024 z)

theorem row_le (u v : FVec Ideal S512x1024 .f32) (j : S1x128.Idx) (z : EReal) :
    (k0_pay40 (F := Ideal) (shapeCast S1x512x1024 u shapeCasts_S512x1024_S1x512x1024) (shapeCast S1x512x1024 v shapeCasts_S512x1024_S1x512x1024) j : EReal) ≤ z
      ↔ (∀ i, max (u i : EReal) (-(u i : EReal)) ≤ z) ∧ ∀ i, max (v i : EReal) (-(v i : EReal)) ≤ z := by
  rw [pay40_row, pay38_top, scalar_max]
  exact max_le_iff.trans (and_congr (half_le u z) (half_le v z))

variable (xs : Dev nD → (cc0_stg0_0 : Ref sig .tc).ty.Contents (Elt Ideal)) (ws : Dev nD → (cc0_stg1_0 : Ref sig .tc).ty.Contents (Elt Ideal))

/-- The maximum every device arrives at. -/
def amaxK : EReal := k0_pay41 (F := Ideal) (axFull xs ws)

/-- What device `d` of side `b` holds reduced. -/
def redE (b : Bool) (d : Dev nD) : FVec Ideal S512x1024 .f32 := sent (F := Ideal) xs ws b 7 d

theorem amaxK_le (z : EReal) : amaxK xs ws ≤ z ↔ ∀ (b : Bool) (d : Dev nD) (i : S512x1024.Idx), max (redE xs ws b d i : EReal) (-(redE xs ws b d i : EReal)) ≤ z := by
  refine (pay41_le (axFull xs ws) z).trans ⟨fun H b d => ?_, fun H i => ?_⟩
  · have h := (row_le (redE xs ws false d) (redE xs ws true d) (ix2 (0 : Fin 1) (0 : Fin 128)) z).mp (H (ix2 (d : Fin 8) (0 : Fin 128)))
    cases b
    · exact h.1
    · exact h.2
  · exact (row_le (redE xs ws false (i 0)) (redE xs ws true (i 0)) (ix2 (0 : Fin 1) (i 1)) z).mpr ⟨H false (i 0), H true (i 0)⟩

/-! ## The whole product's -/

/-- The places of the whole product, by block, half and place within. -/
theorem place (r : Fin 4096) (n : Fin 2048) :
    row ⟨r.val / 512, by omega⟩ ⟨r.val % 512, Nat.mod_lt _ (by decide)⟩ = r
      ∧ col (decide (1024 ≤ n.val)) ⟨n.val % 1024, Nat.mod_lt _ (by decide)⟩ = n := by
  refine ⟨Fin.ext (by simp only [row]; omega), Fin.ext ?_⟩
  by_cases h : 1024 ≤ n.val
  · simp only [col, h, decide_true, colO]; omega
  · simp only [col, h, decide_false, colO]; omega

/-- The two maxima. -/
theorem amaxK_eq (Y : Fin 4096 → Fin 2048 → EReal)
    (hY : ∀ b g (r : Fin 512) (l : Fin 1024), (redE xs ws b (owner b g) (ix2 r l) : EReal) = Y (row g r) (col b l)) (A : EReal)
    (hA : ∀ z, A ≤ z ↔ ∀ r n, max (Y r n) (-(Y r n)) ≤ z) : amaxK xs ws = A := by
  refine eq_of_forall_ge_iff fun z => (amaxK_le xs ws z).trans ((hA z).trans ?_).symm
  constructor
  · intro H b d i
    have e := hY b (cI b (pos d) 7) (i 0) (i 1)
    rw [owner_cI, ← eq_ix2 i] at e
    rw [e]
    exact H _ _
  · intro H r n
    have e := place r n
    rw [← e.1, ← e.2, ← hY]
    exact H _ _ _

end Cert.KernelIdeal.Ring
-- ==== Proof.Value.lean ====
/- What every device's output holds, at the extended reals: the whole product, quantised against its largest absolute value and scaled back. -/
module

public import proofs.«01_k».proof.Proof.Maxima

@[expose] public section

noncomputable section

namespace Cert.KernelIdeal.Ring

open Cert.KernelIdeal Cert.KernelIdeal.Gen
open Idealize.ShloMosaic Idealize.ShloMosaic.TcCoe Idealize.SL.Sem

/-! ## The quantised block and its scaling back, without the changes of shape -/

section Any
variable {F : FTy → Type} [FloatOps F]
variable (xs : Dev nD → (cc0_stg0_0 : Ref sig .tc).ty.Contents (Elt F)) (ws : Dev nD → (cc0_stg1_0 : Ref sig .tc).ty.Contents (Elt F))

/-- A block quantised against the scalar `k`. -/
def quantV (k : F .f32) (u : FVec F S512x1024 .f32) : IVec S512x1024 8 :=
  fptosi 8 (minimumf (broadcast S512x1024 (Scalar.ofBits .f32 0x42FE0000#32)) (maximumf (broadcast S512x1024 (Scalar.ofBits .f32 0xC2FE0000#32))
    (roundeven (mulf u (broadcast S512x1024 k)))))

theorem pay44_quant (A : Vec F S8x128 .f32) (u : FVec F S512x1024 .f32) :
    shapeCast S512x1024 (k0_pay44 A (shapeCast S1x512x1024 u shapeCasts_S512x1024_S1x512x1024)) shapeCasts_S1x512x1024_S512x1024
      = quantV (k0_pay43 A) u := by
  unfold k0_pay44 quantV
  simp only [shapeCast_shapeCast]

theorem deqV_scaled (sc : F .f32) (q : IVec S512x1024 8) :
    shapeCast S512x1024 (deqV sc (shapeCast S1x512x1024 q shapeCasts_S512x1024_S1x512x1024)) shapeCasts_S1x512x1024_S512x1024
      = (mulf (sitofp .f32 q) (broadcast S512x1024 sc) : FVec F S512x1024 .f32) := by
  unfold deqV
  simp only [shapeCast_shapeCast]

theorem outv_eq (b : Bool) (g : Fin 8) :
    outv xs ws b g = (mulf (sitofp .f32 (quantV (k0_pay43 (axFull xs ws)) (sent xs ws b 7 (owner b g)))) (broadcast S512x1024 (k0_pay42 (axFull xs ws)))
      : FVec F S512x1024 .f32) := by
  have e : qv xs ws b g = quantV (k0_pay43 (axFull xs ws)) (sent xs ws b 7 (owner b g)) := by
    unfold qv redV
    rw [pay44_quant]
  unfold outv
  rw [e, deqV_scaled]

theorem pay42_eq (A : Vec F S8x128 .f32) : k0_pay42 A = Scalar.divf (k0_pay41 A) (Scalar.ofBits .f32 0x42FE0000#32) := rfl
theorem pay43_eq (A : Vec F S8x128 .f32) : k0_pay43 A = Scalar.divf (Scalar.ofBits .f32 0x42FE0000#32) (k0_pay41 A) := rfl

end Any

/-! ## At the extended reals -/

theorem scalar_div (a b : Ideal .f32) : (Scalar.divf a b : Ideal .f32) = Ideal.div a b := rfl
theorem scalar_127 : (Scalar.ofBits .f32 0x42FE0000#32 : Ideal .f32) = ((127 : ℝ) : EReal) := bits_127

theorem pay43_ideal (A : Vec Ideal S8x128 .f32) : (k0_pay43 (F := Ideal) A : EReal) = Ideal.div ((127 : ℝ) : EReal) (k0_pay41 (F := Ideal) A) := by
  rw [pay43_eq, scalar_div, scalar_127]
theorem pay42_ideal (A : Vec Ideal S8x128 .f32) : (k0_pay42 (F := Ideal) A : EReal) = Ideal.div (k0_pay41 (F := Ideal) A) ((127 : ℝ) : EReal) := by
  rw [pay42_eq, scalar_div, scalar_127]

theorem quantV_ideal (k : Ideal .f32) (u : FVec Ideal S512x1024 .f32) (j : S512x1024.Idx) :
    quantV k u j = Ideal.fptosi 8 (clipR ((u j : EReal) * (k : EReal))) := by
  unfold clipR
  rw [← bits_127, ← bits_m127]; rfl

theorem scaled_ideal (q : IVec S512x1024 8) (k : Ideal .f32) (j : S512x1024.Idx) :
    ((mulf (sitofp .f32 q) (broadcast S512x1024 k) : FVec Ideal S512x1024 .f32) j : EReal) = (((q j).toInt : ℝ) : EReal) * (k : EReal) := rfl

variable (xs : Dev nD → (cc0_stg0_0 : Ref sig .tc).ty.Contents (Elt Ideal)) (ws : Dev nD → (cc0_stg1_0 : Ref sig .tc).ty.Contents (Elt Ideal))

theorem outv_ideal (b : Bool) (g : Fin 8) (j : S512x1024.Idx) : (outv (F := Ideal) xs ws b g j : EReal)
    = clipR ((redE xs ws b (owner b g) j : EReal) * Ideal.div ((127 : ℝ) : EReal) (amaxK xs ws)) * Ideal.div (amaxK xs ws) ((127 : ℝ) : EReal) := by
  rw [outv_eq, scaled_ideal, quantV_ideal, pay43_ideal, pay42_ideal, int8_clipR]
  rfl

/-- The output, given the product Y its blocks hold and the largest absolute value A of Y. -/
theorem outAll_ideal (Y : Fin 4096 → Fin 2048 → EReal)
    (hY : ∀ b g (r : Fin 512) (l : Fin 1024), (redE xs ws b (owner b g) (ix2 r l) : EReal) = Y (row g r) (col b l)) (A : EReal)
    (hA : ∀ z, A ≤ z ↔ ∀ r n, max (Y r n) (-(Y r n)) ≤ z) (i : S4096x2048.Idx) :
    (outAll (F := Ideal) xs ws i : EReal)
      = clipR (Ideal.div (Y (i 0) (i 1)) (Ideal.div A ((127 : ℝ) : EReal))) * Ideal.div A ((127 : ℝ) : EReal) := by
  unfold outAll
  rw [outv_ideal, amaxK_eq xs ws Y hY A hA, hY]
  have e := place (i 0) (i 1)
  rw [e.1, e.2]
  exact quantise_eq _ _ ((hA A).mp le_rfl _ _)

end Cert.KernelIdeal.Ring
-- ==== Proof.RefValue.lean ====
/- What the reference's output holds, at the extended reals: the same, its one product and one maximum read at an index. -/
module

public import proofs.«01_k».proof.Proof.Gen.ReferenceIdeal.Run
public import proofs.«01_k».proof.Proof.Maxima

@[expose] public section

noncomputable section

namespace Cert.ReferenceIdeal.Value

open Cert.ReferenceIdeal Cert.ReferenceIdeal.Gen
open Idealize.ShloMosaic Idealize.ShloMosaic.TcCoe Idealize.SL.Sem
open Idealize.ShloMosaic.ValueIdx (contrEquiv1)
open Cert.KernelIdeal.Ring (whole clipR bits_127 bits_m127 fold_max_bot_le)

section Any
variable {F : FTy → Type} [FloatOps F]

/-- The product, its largest absolute value, the scale, the result. -/
def prodV (X : FVec F S4096x4096 .f32) (W : FVec F S4096x2048 .f32) : FVec F S4096x2048 .f32 :=
  Host.dotGeneral dot_S4096x4096_S4096x2048_S4096x2048_1_0_0_1_n_n none X W
def amaxV (Y : FVec F S4096x2048 .f32) : FVec F S_ .f32 :=
  Host.reduce FloatOps.maximumf (Host.absf Y) (constant S_ .f32 0xFF800000#32) reducesTo_S4096x2048_S_d0_1 h_S_
def scaleV (a : FVec F S_ .f32) : FVec F S4096x2048 .f32 :=
  broadcastInDim S4096x2048 ![] bcast_S_S4096x2048 (Host.divf a (constant S_ .f32 0x42FE0000#32))
def resV (Y : FVec F S4096x2048 .f32) (a : FVec F S_ .f32) : FVec F S4096x2048 .f32 :=
  mulf (minimumf (broadcastInDim S4096x2048 ![] bcast_S_S4096x2048 (id (constant S_ .f32 0x42FE0000#32)))
    (maximumf (broadcastInDim S4096x2048 ![] bcast_S_S4096x2048 (id (constant S_ .f32 0xC2FE0000#32))) (Host.roundeven (Host.divf Y (scaleV a))))) (scaleV a)

/-- The run, with those names. -/
theorem run_named (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9)
          = resV (prodV (m ((c.tc : Thread nD τ).loc main_arg0)) (m ((c.tc : Thread nD τ).loc main_arg1)))
              (amaxV (prodV (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

end Any

theorem prodV_apply (X : FVec Ideal S4096x4096 .f32) (W : FVec Ideal S4096x2048 .f32) (i : S4096x2048.Idx) :
    (prodV X W i : EReal) = whole X W (i 0) (i 1) := by
  unfold prodV
  simp only [Host.dotGeneral]
  rw [Ideal.dotGeneral_apply]
  refine Fintype.sum_equiv (contrEquiv1 dot_S4096x4096_S4096x2048_S4096x2048_1_0_0_1_n_n 4096 rfl rfl) _ _ fun k => ?_
  refine congrArg₂ (fun u v : EReal => u * v) (congrArg X ?_) (congrArg W ?_) <;> (funext a; fin_cases a <;> rfl)

theorem amaxV_le (Y : FVec Ideal S4096x2048 .f32) (j : S_.Idx) (z : EReal) :
    (amaxV Y j : EReal) ≤ z ↔ ∀ i, max (Y i : EReal) (-(Y i : EReal)) ≤ z := by
  unfold amaxV
  rw [Host.reduce_eq_fold]
  refine (fold_max_bot_le _ (fun i => max (Y i : EReal) (-(Y i : EReal))) z).trans ⟨fun H i => H i (Finset.mem_filter.mpr ⟨Finset.mem_univ _, ?_⟩), fun H i _ => H i⟩
  exact funext fun a => a.elim0

theorem scaleV_apply (a : FVec Ideal S_ .f32) (i : S4096x2048.Idx) :
    (scaleV a i : EReal) = Ideal.div (a (fun k => k.elim0)) ((127 : ℝ) : EReal) := by
  rw [← bits_127]
  unfold scaleV
  refine congrArg (fun j => Ideal.div (a j) (Ideal.ofBits .f32 0x42FE0000#32)) (funext fun k => k.elim0)

theorem resV_apply (Y : FVec Ideal S4096x2048 .f32) (a : FVec Ideal S_ .f32) (i : S4096x2048.Idx) :
    (resV Y a i : EReal) = clipR (Ideal.div (Y i) (Ideal.div (a (fun k => k.elim0)) ((127 : ℝ) : EReal)))
      * Ideal.div (a (fun k => k.elim0)) ((127 : ℝ) : EReal) := by
  rw [← scaleV_apply a i]
  unfold clipR
  rw [← bits_m127, ← bits_127]
  rfl

end Cert.ReferenceIdeal.Value
-- ==== Proof.lean ====
/- The claims: the three programs run to the end, with the arguments unchanged and every semaphore at zero; and at the extended
   reals every device's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Staged
public import proofs.«01_k».proof.Proof.Value
public import proofs.«01_k».proof.Proof.RefValue
public import Idealize.ShloMosaic.Lib.Tactic
public import Idealize.ShloMosaic.Adequacy
public import Idealize.ShloMosaic.Init

@[expose] public section

noncomputable section

namespace Cert.Proof

open Idealize.ShloMosaic Idealize.SL.Sem

/-- The program printed for reading at the reals: its run at `Ideal`, values dropped. -/
theorem frame_kernelIdeal : Cert.quiescent_KernelIdeal := fun m ρ _ =>
  (θ_run Cert.KernelIdeal.defs _ _).mono (fun _ h => ⟨fun c => (h.1 c).2, h.2⟩) (Cert.KernelIdeal.Ring.run_main (F := Ideal) m ρ)

set_option maxRecDepth 200000 in
/-- The two printed programs are the same text. -/
theorem same_text (m : (ℓ : Loc Cert.KernelIdeal.nD Cert.KernelIdeal.τ Cert.KernelIdeal.sig) → Buf (Elt Bits) ℓ) (ρ : Dev Cert.KernelIdeal.nD → PrngReg)
    (Q : PUnit × MemSt Cert.KernelIdeal.nD Cert.KernelIdeal.τ Cert.KernelIdeal.sig (Elt Bits) → Prop) :
    θ_run (Cert.Kernel.defs (F := Bits)) (onTc (τ := Cert.Kernel.τ) (Cert.Kernel.main (F := Bits))) ⟨m, fun _ => 0, ρ⟩ Q
      = θ_run (Cert.KernelIdeal.defs (F := Bits)) (onTc (τ := Cert.KernelIdeal.τ) (Cert.KernelIdeal.main (F := Bits))) ⟨m, fun _ => 0, ρ⟩ Q := by
  sl_kernel_rfl

set_option maxRecDepth 200000 in
/-- The program at the machine's formats: the same run at `Bits`. -/
theorem frame_kernel : Cert.quiescent_Kernel := fun m ρ _ => by
  have h := (θ_run Cert.KernelIdeal.defs _ _).mono (Q' := fun r => (∀ c : Dev Cert.KernelIdeal.nD,
      r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)) ∧ r.2.sem = fun _ => 0)
    (fun _ h => ⟨fun c => (h.1 c).2, h.2⟩) (Cert.KernelIdeal.Ring.run_main (F := Bits) m ρ)
  exact (same_text m ρ _).mpr h

/-- The reference declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

open Cert.KernelIdeal.Ring Cert.ReferenceIdeal.Value in
set_option maxRecDepth 200000 in
/-- With the devices' arguments the blocks of the reference's, every device's output is the reference's result. -/
theorem result_eq (m : (ℓ : Loc Cert.KernelIdeal.nD Cert.KernelIdeal.τ Cert.KernelIdeal.sig) → Buf (Elt Ideal) ℓ)
    (X : FVec Ideal ⟨2, ![4096, 4096]⟩ .f32) (W : FVec Ideal ⟨2, ![4096, 2048]⟩ .f32)
    (h : ∀ c : Dev Cert.KernelIdeal.nD,
      m (c.tc.loc Cert.KernelIdeal.main_arg0) = Layout.block ⟨2, ![4096, 512]⟩ ⟨2, ![4096, 4096]⟩ 1 8 c X
        ∧ m (c.tc.loc Cert.KernelIdeal.main_arg1) = Layout.block ⟨2, ![512, 2048]⟩ ⟨2, ![4096, 2048]⟩ 0 8 c W) :
    (outAll (F := Ideal) (xsOf m) (wsOf m) : (⟨2, ![4096, 2048]⟩ : Shape).Idx → EReal) = resV (F := Ideal) (prodV X W) (amaxV (prodV X W)) := by
  have hx : ∀ d (r : Fin 4096) (j : Fin 512), xAt (xsOf m) d r j = X (ix2 r (con d j)) := fun d r j => by
    refine (xsOf_apply m d (ix2 r j)).trans ((congrFun (h d).1 (ix2 r j)).trans (congrArg X (funext fun a => ?_)))
    fin_cases a <;> rfl
  have hw : ∀ d (j : Fin 512) (n : Fin 2048), wAt (wsOf m) d j n = W (ix2 (con d j) n) := fun d j n => by
    refine (wsOf_apply m d (ix2 j n)).trans ((congrFun (h d).2 (ix2 j n)).trans (congrArg W (funext fun a => ?_)))
    fin_cases a <;> rfl
  funext i
  refine (outAll_ideal (xsOf m) (wsOf m) (whole X W) (fun b g r l => sent_whole (xsOf m) (wsOf m) X W hx hw b g r l)
    (amaxV (F := Ideal) (prodV X W) fun k => k.elim0) (fun z => (amaxV_le _ _ z).trans ⟨fun H r n => ?_, fun H i => ?_⟩) i).trans ?_
  · have := H (ix2 r n); rwa [prodV_apply] at this
  · rw [prodV_apply]; exact H _ _
  · rw [resV_apply, prodV_apply]

/-- The values: the two runs end with that one result. -/
theorem algebraic : Cert.algebraic_KernelIdeal_ReferenceIdeal := fun m g m' g' _ h =>
  ⟨_, (θ_run Cert.KernelIdeal.defs _ _).mono
      (fun _ r c => ⟨(r.1 c).1.trans (result_eq m _ _ h), (r.1 c).2.1, (r.1 c).2.2⟩) (Cert.KernelIdeal.Ring.run_main (F := Ideal) m g),
    (θ_run Cert.ReferenceIdeal.defs _ _).mono (fun _ r => r 0) (Cert.ReferenceIdeal.Value.run_named (F := Ideal) m' g')⟩

theorem claim : Cert.Claim :=
  ⟨Cert.Kernel.Gen.facts, Cert.KernelIdeal.Gen.facts, Cert.ReferenceIdeal.Gen.facts, frame_kernel, frame_kernelIdeal, frame_reference, trivial, algebraic⟩

end Cert.Proof

end
